-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2, 2] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![8192, 1024]⟩ ⟨2, ![8192, 2048]⟩ (Layout.meshBlock [2, 2, 2] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x1024 : Shape := ⟨2, ![8192, 1024]⟩
abbrev S2x256x1024 : Shape := ⟨3, ![2, 256, 1024]⟩
abbrev S8x256x1024 : Shape := ⟨3, ![8, 256, 1024]⟩
abbrev S2x2048x1024 : Shape := ⟨3, ![2, 2048, 1024]⟩
abbrev S_ : Shape := ⟨0, ![]⟩
abbrev S2 : Shape := ⟨1, ![2]⟩
abbrev S8 : Shape := ⟨1, ![8]⟩
abbrev S4 : Shape := ⟨1, ![4]⟩
abbrev S1x256x1024 : Shape := ⟨3, ![1, 256, 1024]⟩
abbrev S256x1024 : Shape := ⟨2, ![256, 1024]⟩
abbrev S1 : Shape := ⟨1, ![1]⟩
abbrev S1x2048x1024 : Shape := ⟨3, ![1, 2048, 1024]⟩
abbrev S2048x1024 : Shape := ⟨2, ![2048, 1024]⟩

abbrev nBuf : Space → Nat
  | .hbm => 2
  | .vmem => 5
  | .smem => 0
  | _ => 0

abbrev bufTy : (tb : Table) → Fin (tcTables nBuf tb) → BufTy
  | .hbm, ⟨0, _⟩ => ⟨S1x8192x2048, .f32⟩
  | .hbm, ⟨1, _⟩ => ⟨S8192x1024, .bf16⟩
  | .local _ .vmem, ⟨0, _⟩ => ⟨S8192x1024, .bf16⟩
  | .local _ .vmem, ⟨1, _⟩ => ⟨S8192x1024, .bf16⟩
  | .local _ .vmem, ⟨2, _⟩ => ⟨S2x256x1024, .f32⟩
  | .local _ .vmem, ⟨3, _⟩ => ⟨S8x256x1024, .bf16⟩
  | .local _ .vmem, ⟨4, _⟩ => ⟨S2x2048x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v25 : BitVec 32 := Scalar.muli v2 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v29 : BitVec 32 := Scalar.muli v9 c1_i32_17
  let v30 : BitVec 32 := Scalar.addi v28 v29
  v30.toNat
def k0_dev2 (d0 : Dev nD) : Nat :=
  let c0_i32_20 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_19 : BitVec 32 := 4#32
  let v31 : BitVec 32 := Scalar.muli v10 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) (c0_i32_30 : BitVec 32) : Fin 3 → Nat :=
  let c0_i32_31 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32 : BitVec 32 := 2048#32
  let v46 : BitVec 32 := Scalar.muli v13 c2048_i32
  let v47 : BitVec 32 := Scalar.addi v46 c0_i32_30
  let c1_i32_28 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v43 : BitVec 32 := Scalar.subi c1_i32_28 v8
  let c1024_i32 : BitVec 32 := 1024#32
  let v44 : BitVec 32 := Scalar.muli v43 c1024_i32
  ![0, v47.toNat, v44.toNat]
def k0_off2 (d0 : Dev nD) (c0_i32_45 : BitVec 32) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32_44 : BitVec 32 := 2048#32
  let v62 : BitVec 32 := Scalar.muli v13 c2048_i32_44
  let v63 : BitVec 32 := Scalar.addi v62 c0_i32_45
  let c0_i32_53 : BitVec 32 := 0#32
  ![v63.toNat, 0]
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v64 : BitVec 32 := Scalar.muli v2 c4_i32_49
  let v65 : BitVec 32 := Scalar.addi c0_i32_50 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v66 : BitVec 32 := Scalar.muli v5 c2_i32_51
  let v67 : BitVec 32 := Scalar.addi v65 v66
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_52 : BitVec 32 := 1#32
  let v68 : BitVec 32 := Scalar.muli v9 c1_i32_52
  let v69 : BitVec 32 := Scalar.addi v67 v68
  v69.toNat
def k0_dev5 (d0 : Dev nD) : Nat :=
  let c0_i32_76 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_75 : BitVec 32 := 4#32
  let v95 : BitVec 32 := Scalar.muli v2 c4_i32_75
  let v96 : BitVec 32 := Scalar.addi c0_i32_76 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v97 : BitVec 32 := Scalar.muli v5 c2_i32_77
  let v98 : BitVec 32 := Scalar.addi v96 v97
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_78 : BitVec 32 := 1#32
  let v99 : BitVec 32 := Scalar.muli v9 c1_i32_78
  let v100 : BitVec 32 := Scalar.addi v98 v99
  v100.toNat
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v126 : BitVec 32 := Scalar.muli v2 c4_i32_101
  let v127 : BitVec 32 := Scalar.addi c0_i32_102 v126
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v128 : BitVec 32 := Scalar.muli v5 c2_i32_103
  let v129 : BitVec 32 := Scalar.addi v127 v128
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_104 : BitVec 32 := 1#32
  let v130 : BitVec 32 := Scalar.muli v9 c1_i32_104
  let v131 : BitVec 32 := Scalar.addi v129 v130
  v131.toNat
def k0_dev7 (d0 : Dev nD) : Nat :=
  let c0_i32_128 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_127 : BitVec 32 := 4#32
  let v157 : BitVec 32 := Scalar.muli v2 c4_i32_127
  let v158 : BitVec 32 := Scalar.addi c0_i32_128 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_129 : BitVec 32 := 2#32
  let v159 : BitVec 32 := Scalar.muli v5 c2_i32_129
  let v160 : BitVec 32 := Scalar.addi v158 v159
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_130 : BitVec 32 := 1#32
  let v161 : BitVec 32 := Scalar.muli v9 c1_i32_130
  let v162 : BitVec 32 := Scalar.addi v160 v161
  v162.toNat
def k0_dev8 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v188 : BitVec 32 := Scalar.muli v2 c4_i32_154
  let v189 : BitVec 32 := Scalar.addi c0_i32_155 v188
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v190 : BitVec 32 := Scalar.muli v5 c2_i32_156
  let v191 : BitVec 32 := Scalar.addi v189 v190
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_157 : BitVec 32 := 1#32
  let v192 : BitVec 32 := Scalar.muli v9 c1_i32_157
  let v193 : BitVec 32 := Scalar.addi v191 v192
  v193.toNat
def k0_dev9 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v219 : BitVec 32 := Scalar.muli v2 c4_i32_179
  let v220 : BitVec 32 := Scalar.addi c0_i32_180 v219
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v221 : BitVec 32 := Scalar.muli v5 c2_i32_181
  let v222 : BitVec 32 := Scalar.addi v220 v221
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_182 : BitVec 32 := 1#32
  let v223 : BitVec 32 := Scalar.muli v9 c1_i32_182
  let v224 : BitVec 32 := Scalar.addi v222 v223
  v224.toNat
def k0_dev10 (d0 : Dev nD) : Nat :=
  let c0_i32_205 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_204 : BitVec 32 := 4#32
  let v250 : BitVec 32 := Scalar.muli v2 c4_i32_204
  let v251 : BitVec 32 := Scalar.addi c0_i32_205 v250
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_206 : BitVec 32 := 2#32
  let v252 : BitVec 32 := Scalar.muli v5 c2_i32_206
  let v253 : BitVec 32 := Scalar.addi v251 v252
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_207 : BitVec 32 := 1#32
  let v254 : BitVec 32 := Scalar.muli v9 c1_i32_207
  let v255 : BitVec 32 := Scalar.addi v253 v254
  v255.toNat
def k0_dev11 (d0 : Dev nD) : Nat :=
  let c0_i32_230 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_229 : BitVec 32 := 4#32
  let v281 : BitVec 32 := Scalar.muli v2 c4_i32_229
  let v282 : BitVec 32 := Scalar.addi c0_i32_230 v281
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_231 : BitVec 32 := 2#32
  let v283 : BitVec 32 := Scalar.muli v5 c2_i32_231
  let v284 : BitVec 32 := Scalar.addi v282 v283
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_232 : BitVec 32 := 1#32
  let v285 : BitVec 32 := Scalar.muli v9 c1_i32_232
  let v286 : BitVec 32 := Scalar.addi v284 v285
  v286.toNat
def k0_dev12 (d0 : Dev nD) : Nat :=
  let c0_i32_253 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_252 : BitVec 32 := 4#32
  let v310 : BitVec 32 := Scalar.muli v10 c4_i32_252
  let v311 : BitVec 32 := Scalar.addi c0_i32_253 v310
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_254 : BitVec 32 := 2#32
  let v312 : BitVec 32 := Scalar.muli v5 c2_i32_254
  let v313 : BitVec 32 := Scalar.addi v311 v312
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v314 : BitVec 32 := Scalar.muli v8 c1_i32_255
  let v315 : BitVec 32 := Scalar.addi v313 v314
  v315.toNat
def k0_dev13 (d0 : Dev nD) : Nat :=
  let c0_i32_265 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_264 : BitVec 32 := 4#32
  let v326 : BitVec 32 := Scalar.muli v2 c4_i32_264
  let v327 : BitVec 32 := Scalar.addi c0_i32_265 v326
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_266 : BitVec 32 := 2#32
  let v328 : BitVec 32 := Scalar.muli v11 c2_i32_266
  let v329 : BitVec 32 := Scalar.addi v327 v328
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_267 : BitVec 32 := 1#32
  let v330 : BitVec 32 := Scalar.muli v8 c1_i32_267
  let v331 : BitVec 32 := Scalar.addi v329 v330
  v331.toNat
def k0_off3 (d0 : Dev nD) (c0_i32_271 : BitVec 32) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32_270 : BitVec 32 := 2048#32
  let v338 : BitVec 32 := Scalar.muli v16 c2048_i32_270
  let v339 : BitVec 32 := Scalar.addi v338 c0_i32_271
  let c0_i32_278 : BitVec 32 := 0#32
  ![v339.toNat, 0]
def k0_off4 (d0 : Dev nD) (c0_i32_281 : BitVec 32) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c2048_i32_280 : BitVec 32 := 2048#32
  let v350 : BitVec 32 := Scalar.muli v19 c2048_i32_280
  let v351 : BitVec 32 := Scalar.addi v350 c0_i32_281
  let c0_i32_288 : BitVec 32 := 0#32
  ![v351.toNat, 0]
def k0_dev14 (d0 : Dev nD) : Nat :=
  let c0_i32_297 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_296 : BitVec 32 := 4#32
  let v366 : BitVec 32 := Scalar.muli v10 c4_i32_296
  let v367 : BitVec 32 := Scalar.addi c0_i32_297 v366
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_298 : BitVec 32 := 2#32
  let v368 : BitVec 32 := Scalar.muli v5 c2_i32_298
  let v369 : BitVec 32 := Scalar.addi v367 v368
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_299 : BitVec 32 := 1#32
  let v370 : BitVec 32 := Scalar.muli v8 c1_i32_299
  let v371 : BitVec 32 := Scalar.addi v369 v370
  v371.toNat
def k0_dev15 (d0 : Dev nD) : Nat :=
  let c0_i32_319 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_318 : BitVec 32 := 4#32
  let v394 : BitVec 32 := Scalar.muli v10 c4_i32_318
  let v395 : BitVec 32 := Scalar.addi c0_i32_319 v394
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_320 : BitVec 32 := 2#32
  let v396 : BitVec 32 := Scalar.muli v5 c2_i32_320
  let v397 : BitVec 32 := Scalar.addi v395 v396
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_321 : BitVec 32 := 1#32
  let v398 : BitVec 32 := Scalar.muli v8 c1_i32_321
  let v399 : BitVec 32 := Scalar.addi v397 v398
  v399.toNat
def k0_dev16 (d0 : Dev nD) : Nat :=
  let c0_i32_331 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_330 : BitVec 32 := 4#32
  let v410 : BitVec 32 := Scalar.muli v2 c4_i32_330
  let v411 : BitVec 32 := Scalar.addi c0_i32_331 v410
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_332 : BitVec 32 := 2#32
  let v412 : BitVec 32 := Scalar.muli v11 c2_i32_332
  let v413 : BitVec 32 := Scalar.addi v411 v412
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_333 : BitVec 32 := 1#32
  let v414 : BitVec 32 := Scalar.muli v8 c1_i32_333
  let v415 : BitVec 32 := Scalar.addi v413 v414
  v415.toNat
def k0_dev17 (d0 : Dev nD) : Nat :=
  let c0_i32_363 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_362 : BitVec 32 := 4#32
  let v450 : BitVec 32 := Scalar.muli v10 c4_i32_362
  let v451 : BitVec 32 := Scalar.addi c0_i32_363 v450
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_364 : BitVec 32 := 2#32
  let v452 : BitVec 32 := Scalar.muli v5 c2_i32_364
  let v453 : BitVec 32 := Scalar.addi v451 v452
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_365 : BitVec 32 := 1#32
  let v454 : BitVec 32 := Scalar.muli v8 c1_i32_365
  let v455 : BitVec 32 := Scalar.addi v453 v454
  v455.toNat
def k0_dev18 (d0 : Dev nD) : Nat :=
  let c0_i32_385 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_384 : BitVec 32 := 4#32
  let v478 : BitVec 32 := Scalar.muli v10 c4_i32_384
  let v479 : BitVec 32 := Scalar.addi c0_i32_385 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_386 : BitVec 32 := 2#32
  let v480 : BitVec 32 := Scalar.muli v5 c2_i32_386
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_387 : BitVec 32 := 1#32
  let v482 : BitVec 32 := Scalar.muli v8 c1_i32_387
  let v483 : BitVec 32 := Scalar.addi v481 v482
  v483.toNat
def k0_dev19 (d0 : Dev nD) : Nat :=
  let c0_i32_397 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_396 : BitVec 32 := 4#32
  let v494 : BitVec 32 := Scalar.muli v2 c4_i32_396
  let v495 : BitVec 32 := Scalar.addi c0_i32_397 v494
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_398 : BitVec 32 := 2#32
  let v496 : BitVec 32 := Scalar.muli v11 c2_i32_398
  let v497 : BitVec 32 := Scalar.addi v495 v496
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_399 : BitVec 32 := 1#32
  let v498 : BitVec 32 := Scalar.muli v8 c1_i32_399
  let v499 : BitVec 32 := Scalar.addi v497 v498
  v499.toNat
def k0_dev20 (d0 : Dev nD) : Nat :=
  let c0_i32_429 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_428 : BitVec 32 := 4#32
  let v534 : BitVec 32 := Scalar.muli v10 c4_i32_428
  let v535 : BitVec 32 := Scalar.addi c0_i32_429 v534
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_430 : BitVec 32 := 2#32
  let v536 : BitVec 32 := Scalar.muli v5 c2_i32_430
  let v537 : BitVec 32 := Scalar.addi v535 v536
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_431 : BitVec 32 := 1#32
  let v538 : BitVec 32 := Scalar.muli v8 c1_i32_431
  let v539 : BitVec 32 := Scalar.addi v537 v538
  v539.toNat
def k0_dev21 (d0 : Dev nD) : Nat :=
  let c0_i32_451 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_450 : BitVec 32 := 4#32
  let v562 : BitVec 32 := Scalar.muli v10 c4_i32_450
  let v563 : BitVec 32 := Scalar.addi c0_i32_451 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_452 : BitVec 32 := 2#32
  let v564 : BitVec 32 := Scalar.muli v5 c2_i32_452
  let v565 : BitVec 32 := Scalar.addi v563 v564
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_453 : BitVec 32 := 1#32
  let v566 : BitVec 32 := Scalar.muli v8 c1_i32_453
  let v567 : BitVec 32 := Scalar.addi v565 v566
  v567.toNat
def k0_dev22 (d0 : Dev nD) : Nat :=
  let c0_i32_463 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_462 : BitVec 32 := 4#32
  let v578 : BitVec 32 := Scalar.muli v2 c4_i32_462
  let v579 : BitVec 32 := Scalar.addi c0_i32_463 v578
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_464 : BitVec 32 := 2#32
  let v580 : BitVec 32 := Scalar.muli v11 c2_i32_464
  let v581 : BitVec 32 := Scalar.addi v579 v580
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_465 : BitVec 32 := 1#32
  let v582 : BitVec 32 := Scalar.muli v8 c1_i32_465
  let v583 : BitVec 32 := Scalar.addi v581 v582
  v583.toNat
def k0_dev23 (d0 : Dev nD) : Nat :=
  let c0_i32_495 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_494 : BitVec 32 := 4#32
  let v618 : BitVec 32 := Scalar.muli v10 c4_i32_494
  let v619 : BitVec 32 := Scalar.addi c0_i32_495 v618
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v620 : BitVec 32 := Scalar.muli v5 c2_i32_496
  let v621 : BitVec 32 := Scalar.addi v619 v620
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_497 : BitVec 32 := 1#32
  let v622 : BitVec 32 := Scalar.muli v8 c1_i32_497
  let v623 : BitVec 32 := Scalar.addi v621 v622
  v623.toNat
def k0_dev24 (d0 : Dev nD) : Nat :=
  let c0_i32_517 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_516 : BitVec 32 := 4#32
  let v646 : BitVec 32 := Scalar.muli v10 c4_i32_516
  let v647 : BitVec 32 := Scalar.addi c0_i32_517 v646
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_518 : BitVec 32 := 2#32
  let v648 : BitVec 32 := Scalar.muli v5 c2_i32_518
  let v649 : BitVec 32 := Scalar.addi v647 v648
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_519 : BitVec 32 := 1#32
  let v650 : BitVec 32 := Scalar.muli v8 c1_i32_519
  let v651 : BitVec 32 := Scalar.addi v649 v650
  v651.toNat
def k0_dev25 (d0 : Dev nD) : Nat :=
  let c0_i32_529 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_528 : BitVec 32 := 4#32
  let v662 : BitVec 32 := Scalar.muli v2 c4_i32_528
  let v663 : BitVec 32 := Scalar.addi c0_i32_529 v662
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_530 : BitVec 32 := 2#32
  let v664 : BitVec 32 := Scalar.muli v11 c2_i32_530
  let v665 : BitVec 32 := Scalar.addi v663 v664
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_531 : BitVec 32 := 1#32
  let v666 : BitVec 32 := Scalar.muli v8 c1_i32_531
  let v667 : BitVec 32 := Scalar.addi v665 v666
  v667.toNat
def k0_dev26 (d0 : Dev nD) : Nat :=
  let c0_i32_551 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_550 : BitVec 32 := 4#32
  let v690 : BitVec 32 := Scalar.muli v2 c4_i32_550
  let v691 : BitVec 32 := Scalar.addi c0_i32_551 v690
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_552 : BitVec 32 := 2#32
  let v692 : BitVec 32 := Scalar.muli v11 c2_i32_552
  let v693 : BitVec 32 := Scalar.addi v691 v692
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_553 : BitVec 32 := 1#32
  let v694 : BitVec 32 := Scalar.muli v8 c1_i32_553
  let v695 : BitVec 32 := Scalar.addi v693 v694
  v695.toNat
def k0_dev27 (d0 : Dev nD) : Nat :=
  let c0_i32_583 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_582 : BitVec 32 := 4#32
  let v730 : BitVec 32 := Scalar.muli v10 c4_i32_582
  let v731 : BitVec 32 := Scalar.addi c0_i32_583 v730
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_584 : BitVec 32 := 2#32
  let v732 : BitVec 32 := Scalar.muli v5 c2_i32_584
  let v733 : BitVec 32 := Scalar.addi v731 v732
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_585 : BitVec 32 := 1#32
  let v734 : BitVec 32 := Scalar.muli v8 c1_i32_585
  let v735 : BitVec 32 := Scalar.addi v733 v734
  v735.toNat
def k0_dev28 (d0 : Dev nD) : Nat :=
  let c0_i32_595 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_594 : BitVec 32 := 4#32
  let v746 : BitVec 32 := Scalar.muli v2 c4_i32_594
  let v747 : BitVec 32 := Scalar.addi c0_i32_595 v746
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_596 : BitVec 32 := 2#32
  let v748 : BitVec 32 := Scalar.muli v11 c2_i32_596
  let v749 : BitVec 32 := Scalar.addi v747 v748
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_597 : BitVec 32 := 1#32
  let v750 : BitVec 32 := Scalar.muli v8 c1_i32_597
  let v751 : BitVec 32 := Scalar.addi v749 v750
  v751.toNat
def k0_dev29 (d0 : Dev nD) : Nat :=
  let c0_i32_617 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_616 : BitVec 32 := 4#32
  let v774 : BitVec 32 := Scalar.muli v2 c4_i32_616
  let v775 : BitVec 32 := Scalar.addi c0_i32_617 v774
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_618 : BitVec 32 := 2#32
  let v776 : BitVec 32 := Scalar.muli v11 c2_i32_618
  let v777 : BitVec 32 := Scalar.addi v775 v776
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_619 : BitVec 32 := 1#32
  let v778 : BitVec 32 := Scalar.muli v8 c1_i32_619
  let v779 : BitVec 32 := Scalar.addi v777 v778
  v779.toNat
def k0_dev30 (d0 : Dev nD) : Nat :=
  let c0_i32_649 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_648 : BitVec 32 := 4#32
  let v814 : BitVec 32 := Scalar.muli v10 c4_i32_648
  let v815 : BitVec 32 := Scalar.addi c0_i32_649 v814
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_650 : BitVec 32 := 2#32
  let v816 : BitVec 32 := Scalar.muli v5 c2_i32_650
  let v817 : BitVec 32 := Scalar.addi v815 v816
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_651 : BitVec 32 := 1#32
  let v818 : BitVec 32 := Scalar.muli v8 c1_i32_651
  let v819 : BitVec 32 := Scalar.addi v817 v818
  v819.toNat
def k0_dev31 (d0 : Dev nD) : Nat :=
  let c0_i32_661 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_660 : BitVec 32 := 4#32
  let v830 : BitVec 32 := Scalar.muli v2 c4_i32_660
  let v831 : BitVec 32 := Scalar.addi c0_i32_661 v830
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_662 : BitVec 32 := 2#32
  let v832 : BitVec 32 := Scalar.muli v11 c2_i32_662
  let v833 : BitVec 32 := Scalar.addi v831 v832
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_663 : BitVec 32 := 1#32
  let v834 : BitVec 32 := Scalar.muli v8 c1_i32_663
  let v835 : BitVec 32 := Scalar.addi v833 v834
  v835.toNat
def k0_dev32 (d0 : Dev nD) : Nat :=
  let c0_i32_683 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_682 : BitVec 32 := 4#32
  let v858 : BitVec 32 := Scalar.muli v2 c4_i32_682
  let v859 : BitVec 32 := Scalar.addi c0_i32_683 v858
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_684 : BitVec 32 := 2#32
  let v860 : BitVec 32 := Scalar.muli v11 c2_i32_684
  let v861 : BitVec 32 := Scalar.addi v859 v860
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_685 : BitVec 32 := 1#32
  let v862 : BitVec 32 := Scalar.muli v8 c1_i32_685
  let v863 : BitVec 32 := Scalar.addi v861 v862
  v863.toNat
def k0_dev33 (d0 : Dev nD) : Nat :=
  let c0_i32_715 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_714 : BitVec 32 := 4#32
  let v898 : BitVec 32 := Scalar.muli v10 c4_i32_714
  let v899 : BitVec 32 := Scalar.addi c0_i32_715 v898
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_716 : BitVec 32 := 2#32
  let v900 : BitVec 32 := Scalar.muli v5 c2_i32_716
  let v901 : BitVec 32 := Scalar.addi v899 v900
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_717 : BitVec 32 := 1#32
  let v902 : BitVec 32 := Scalar.muli v8 c1_i32_717
  let v903 : BitVec 32 := Scalar.addi v901 v902
  v903.toNat
def k0_dev34 (d0 : Dev nD) : Nat :=
  let c0_i32_727 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_726 : BitVec 32 := 4#32
  let v914 : BitVec 32 := Scalar.muli v2 c4_i32_726
  let v915 : BitVec 32 := Scalar.addi c0_i32_727 v914
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_728 : BitVec 32 := 2#32
  let v916 : BitVec 32 := Scalar.muli v11 c2_i32_728
  let v917 : BitVec 32 := Scalar.addi v915 v916
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_729 : BitVec 32 := 1#32
  let v918 : BitVec 32 := Scalar.muli v8 c1_i32_729
  let v919 : BitVec 32 := Scalar.addi v917 v918
  v919.toNat
def k0_dev35 (d0 : Dev nD) : Nat :=
  let c0_i32_749 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_748 : BitVec 32 := 4#32
  let v942 : BitVec 32 := Scalar.muli v2 c4_i32_748
  let v943 : BitVec 32 := Scalar.addi c0_i32_749 v942
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_750 : BitVec 32 := 2#32
  let v944 : BitVec 32 := Scalar.muli v11 c2_i32_750
  let v945 : BitVec 32 := Scalar.addi v943 v944
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_751 : BitVec 32 := 1#32
  let v946 : BitVec 32 := Scalar.muli v8 c1_i32_751
  let v947 : BitVec 32 := Scalar.addi v945 v946
  v947.toNat
def k0_off5 (d0 : Dev nD) : Fin 3 → Nat :=
  let c0_i32_765 : BitVec 32 := 0#32
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32_764 : BitVec 32 := 2048#32
  let v966 : BitVec 32 := Scalar.muli v13 c2048_i32_764
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  ![0, v966.toNat, v45.toNat]
def k0_off6 (d0 : Dev nD) : Fin 3 → Nat :=
  let c0_i32_771 : BitVec 32 := 0#32
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32_770 : BitVec 32 := 2048#32
  let v973 : BitVec 32 := Scalar.muli v16 c2048_i32_770
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  ![0, v973.toNat, v45.toNat]
def k0_off7 (d0 : Dev nD) : Fin 2 → Nat :=
  let c2_i32_6 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v12 : BitVec 32 := Scalar.muli c2_i32_6 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v13 : BitVec 32 := Scalar.addi v12 v5
  let c2048_i32_781 : BitVec 32 := 2048#32
  let v986 : BitVec 32 := Scalar.muli v13 c2048_i32_781
  let v987 : Index := Scalar.indexCast v986
  let c0_782 : Index := 0#32
  ![v987.toNat, 0]
def k0_off8 (d0 : Dev nD) : Fin 3 → Nat :=
  let c0_i32_789 : BitVec 32 := 0#32
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c2048_i32_788 : BitVec 32 := 2048#32
  let v996 : BitVec 32 := Scalar.muli v19 c2048_i32_788
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  ![0, v996.toNat, v45.toNat]
def k0_off9 (d0 : Dev nD) : Fin 2 → Nat :=
  let c2_i32_8 : BitVec 32 := 2#32
  let c1_i32_7 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.subi c1_i32_7 v2
  let v15 : BitVec 32 := Scalar.muli c2_i32_8 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32_799 : BitVec 32 := 2048#32
  let v1009 : BitVec 32 := Scalar.muli v16 c2048_i32_799
  let v1010 : Index := Scalar.indexCast v1009
  let c0_800 : Index := 0#32
  ![v1010.toNat, 0]
def k0_off10 (d0 : Dev nD) : Fin 3 → Nat :=
  let c0_i32_807 : BitVec 32 := 0#32
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c2048_i32_806 : BitVec 32 := 2048#32
  let v1019 : BitVec 32 := Scalar.muli v23 c2048_i32_806
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_29 : BitVec 32 := 1024#32
  let v45 : BitVec 32 := Scalar.muli v8 c1024_i32_29
  ![0, v1019.toNat, v45.toNat]
def k0_off11 (d0 : Dev nD) : Fin 2 → Nat :=
  let c2_i32_9 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.muli c2_i32_9 v2
  let c1_i32_10 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.subi c1_i32_10 v5
  let v19 : BitVec 32 := Scalar.addi v17 v18
  let c2048_i32_817 : BitVec 32 := 2048#32
  let v1032 : BitVec 32 := Scalar.muli v19 c2048_i32_817
  let v1033 : Index := Scalar.indexCast v1032
  let c0_818 : Index := 0#32
  ![v1033.toNat, 0]
def k0_off12 (d0 : Dev nD) (c0_i32_825 : BitVec 32) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c2048_i32_824 : BitVec 32 := 2048#32
  let v1042 : BitVec 32 := Scalar.muli v23 c2048_i32_824
  let v1043 : BitVec 32 := Scalar.addi v1042 c0_i32_825
  let c0_i32_832 : BitVec 32 := 0#32
  ![v1043.toNat, 0]
def k0_off13 (d0 : Dev nD) : Fin 2 → Nat :=
  let c2_i32_12 : BitVec 32 := 2#32
  let c1_i32_11 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v20 : BitVec 32 := Scalar.subi c1_i32_11 v2
  let v21 : BitVec 32 := Scalar.muli c2_i32_12 v20
  let c1_i32_13 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v22 : BitVec 32 := Scalar.subi c1_i32_13 v5
  let v23 : BitVec 32 := Scalar.addi v21 v22
  let c2048_i32_909 : BitVec 32 := 2048#32
  let v1144 : BitVec 32 := Scalar.muli v23 c2048_i32_909
  let v1145 : Index := Scalar.indexCast v1144
  let c0_910 : Index := 0#32
  ![v1145.toNat, 0]
abbrev stage0_0 : Fin 1 → Memref sig .tc .vmem S8192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x8192x2048 : Shape := ⟨3, ![2, 8192, 2048]⟩
abbrev S_ : Shape := ⟨0, ![]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S_, .f32⟩
  | .hbm, ⟨2, _⟩ => ⟨S8192x2048, .f32⟩
  | .hbm, ⟨3, _⟩ => ⟨S8192x2048, .bf16⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/-
# The kernel's body by its steps

The printed body is a straight line of some two hundred operations. Here each kind of step is written once over
the transfer or the slot it names, and `body_eq` says that the printed body is the sequence of those steps.

A transfer between devices is named by its leg and its chunk. The legs: `z` carries a device's own rows to the
device across the last mesh axis, `x` and `y` pass what arrived on `z` across the first and the second axis, and
`d` passes on what arrived on `y` (chunks 0 to 3, across the first axis) and on `x` (chunks 4 to 7, across the second).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KProof

open Cert.KernelIdeal Cert.KernelIdeal.Gen
open Idealize.ShloMosaic Idealize.ShloMosaic.TcCoe Idealize.SL.Sem

variable {F : FTy → Type} [FloatOps F]

/-! ## Transfers and devices -/

/-- The four legs a chunk can travel on. -/
inductive Leg | z | x | y | d
  deriving DecidableEq

instance : Fintype Leg := ⟨{.z, .x, .y, .d}, fun l => by cases l <;> decide⟩

/-- A transfer: the leg and the chunk. -/
abbrev Tr : Type := Leg × Fin 8

/-- The legs in the order of their semaphores. -/
def Leg.ix : Leg → ℕ | .z => 0 | .x => 1 | .y => 2 | .d => 3

/-- The device's partner across the mesh axis that the number names: 0 the last axis, 1 the first, 2 the second. -/
def nb (d : Dev nD) : Fin 3 → Dev nD
  | 0 => ⟨k0_dev1 d, k0_dev1_lt d⟩
  | 1 => ⟨k0_dev2 d, k0_dev2_lt d⟩
  | 2 => ⟨k0_dev3 d, k0_dev3_lt d⟩

/-- The axis a transfer crosses. -/
def tg : Tr → Fin 3
  | (.z, _) => 0
  | (.x, _) => 1
  | (.y, _) => 2
  | (.d, s) => if s.val < 4 then 1 else 2

/-- The device a transfer of device `d` goes to; it is also the one its own transfer of that name comes from. -/
abbrev tgt (d : Dev nD) (n : Tr) : Dev nD := nb d (tg n)

/-- The semaphore a transfer's issuer drains. -/
def sndS (n : Tr) : DmaSem sig := ⟨4 + 8 * n.1.ix + n.2.val, by
  obtain ⟨l, s⟩ := n
  change 4 + 8 * l.ix + s.val < 68
  cases l <;> simp only [Leg.ix] <;> omega⟩

/-- The semaphore a transfer's receiver waits on. -/
def rcvS (n : Tr) : DmaSem sig := ⟨36 + 8 * n.1.ix + n.2.val, by
  obtain ⟨l, s⟩ := n
  change 36 + 8 * l.ix + s.val < 68
  cases l <;> simp only [Leg.ix] <;> omega⟩

/-! ## The views -/

/-- The argument. -/
abbrev xM : Memref sig .tc .hbm S1x8192x2048 .f32 := Memref.whole main_arg0
/-- The result's staging buffer. -/
abbrev outM : Memref sig .tc .vmem S8192x1024 .bf16 := Memref.whole cc0_stg0_0
/-- The gathered rows. -/
abbrev gM : Memref sig .tc .vmem S8192x1024 .bf16 := Memref.whole cc0_scratch0
/-- The two staging slots of the rows to send. -/
abbrev aM : Memref sig .tc .vmem S2x256x1024 .f32 := Memref.whole cc0_scratch1
/-- The eight slots of the rounded rows to send. -/
abbrev bM : Memref sig .tc .vmem S8x256x1024 .bf16 := Memref.whole cc0_scratch2
/-- The two staging slots of the rows to add. -/
abbrev eM : Memref sig .tc .vmem S2x2048x1024 .f32 := Memref.whole cc0_scratch3

/-- The 32-bit word of chunk `s`'s first row within its block. -/
abbrev wd (s : Fin 8) : BitVec 32 := BitVec.ofNat 32 (256 * s.val)

/-- Where the rows that device `d` writes by transfer `n` lie. -/
def offD (d : Dev nD) : Tr → Fin 2 → ℕ
  | (.z, s) => k0_off2 d (wd s)
  | (.x, s) => k0_off2 d (wd s)
  | (.y, s) => k0_off2 d (wd s)
  | (.d, s) => if s.val < 4 then k0_off4 d (wd s) else k0_off3 d (wd s)

/-- Where the rows that arrive at device `d` by transfer `n` lie. -/
def offA (d : Dev nD) : Tr → Fin 2 → ℕ
  | (.z, s) => k0_off2 d (wd s)
  | (.x, s) => k0_off3 d (wd s)
  | (.y, s) => k0_off4 d (wd s)
  | (.d, s) => k0_off12 d (wd s)

theorem offD_inb (d : Dev nD) (n : Tr) : ∀ a, offD d n a + S256x1024.size a ≤ S8192x1024.size a := by
  obtain ⟨l, s⟩ := n
  cases l
  · exact k0_off2_inb d s
  · exact k0_off2_inb d s
  · exact k0_off2_inb d s
  · by_cases h : s.val < 4
    · simp only [offD, if_pos h]; exact k0_off4_inb d s
    · simp only [offD, if_neg h]; exact k0_off3_inb d s

theorem offA_inb (d : Dev nD) (n : Tr) : ∀ a, offA d n a + S256x1024.size a ≤ S8192x1024.size a := by
  obtain ⟨l, s⟩ := n
  cases l
  · exact k0_off2_inb d s
  · exact k0_off3_inb d s
  · exact k0_off4_inb d s
  · exact k0_off12_inb d s

/-- The rows that device `d` writes by transfer `n`: on the target, and, but for leg `z`, read at home too. -/
abbrev gD (d : Dev nD) (n : Tr) : Memref sig .tc .vmem S256x1024 .bf16 :=
  gM.slice (Rect.unit (s := S8192x1024) (offD d n) S256x1024.size (offD_inb d n)) (fun _ => rfl)

/-- The rows that arrive at device `d` by transfer `n`. -/
abbrev gA (d : Dev nD) (n : Tr) : Memref sig .tc .vmem S256x1024 .bf16 :=
  gM.slice (Rect.unit (s := S8192x1024) (offA d n) S256x1024.size (offA_inb d n)) (fun _ => rfl)

theorem offD_words (d : Dev nD) (n : Tr) :
    (Rect.unit (s := S8192x1024) (offD d n) S256x1024.size (offD_inb d n)).WholeWords (EltTy.packing .bf16) := by
  obtain ⟨l, s⟩ := n
  cases l
  · exact k0_off2_wordsbf16 d s
  · exact k0_off2_wordsbf16 d s
  · exact k0_off2_wordsbf16 d s
  · by_cases h : s.val < 4
    · have e : offD d (.d, s) = k0_off4 d (wd s) := if_pos h
      rw [show Rect.unit (s := S8192x1024) (offD d (.d, s)) S256x1024.size (offD_inb d (.d, s))
        = Rect.unit (s := S8192x1024) (k0_off4 d (wd s)) S256x1024.size (k0_off4_inb d s) by congr 1]
      exact k0_off4_wordsbf16 d s
    · have e : offD d (.d, s) = k0_off3 d (wd s) := if_neg h
      rw [show Rect.unit (s := S8192x1024) (offD d (.d, s)) S256x1024.size (offD_inb d (.d, s))
        = Rect.unit (s := S8192x1024) (k0_off3 d (wd s)) S256x1024.size (k0_off3_inb d s) by congr 1]
      exact k0_off3_wordsbf16 d s

theorem offA_words (d : Dev nD) (n : Tr) :
    (Rect.unit (s := S8192x1024) (offA d n) S256x1024.size (offA_inb d n)).WholeWords (EltTy.packing .bf16) := by
  obtain ⟨l, s⟩ := n
  cases l
  · exact k0_off2_wordsbf16 d s
  · exact k0_off3_wordsbf16 d s
  · exact k0_off4_wordsbf16 d s
  · exact k0_off12_wordsbf16 d s

theorem gD_exact (d : Dev nD) (n : Tr) : (gD d n).view.WordExact :=
  (Memref.isWhole_whole cc0_scratch0).wordExact_slice rfl _ (offD_words d n)

theorem gA_exact (d : Dev nD) (n : Tr) : (gA d n).view.WordExact :=
  (Memref.isWhole_whole cc0_scratch0).wordExact_slice rfl _ (offA_words d n)

theorem inb8 : ∀ (s : Fin 8), ∀ a, (![s.val, 0, 0] : Fin 3 → ℕ) a + S1x256x1024.size a ≤ S8x256x1024.size a := by decide
theorem inb2a : ∀ (p : Fin 2), ∀ a, (![p.val, 0, 0] : Fin 3 → ℕ) a + S1x256x1024.size a ≤ S2x256x1024.size a := by decide
theorem inb2e : ∀ (p : Fin 2), ∀ a, (![p.val, 0, 0] : Fin 3 → ℕ) a + S1x2048x1024.size a ≤ S2x2048x1024.size a := by decide

/-- Slot `s` of the rows to send. -/
abbrev bR (s : Fin 8) : Rect S8x256x1024 := Rect.unit (s := S8x256x1024) ![s.val, 0, 0] S1x256x1024.size (inb8 s)
/-- Slot `p` of the rows staged to be sent. -/
abbrev aR (p : Fin 2) : Rect S2x256x1024 := Rect.unit (s := S2x256x1024) ![p.val, 0, 0] S1x256x1024.size (inb2a p)
/-- Slot `p` of the rows staged to be added. -/
abbrev eR (p : Fin 2) : Rect S2x2048x1024 := Rect.unit (s := S2x2048x1024) ![p.val, 0, 0] S1x2048x1024.size (inb2e p)

theorem bR_words : ∀ s : Fin 8, (bR s).WholeWords (EltTy.packing .bf16) := by decide
theorem bR_packed : ∀ s : Fin 8, (bR s).PackedRows (EltTy.packing .bf16) := by decide

/-- Slot `s` of the rows to send as a matrix. -/
abbrev bS (s : Fin 8) : Memref sig .tc .vmem S256x1024 .bf16 :=
  (bM.slice (bR s) (fun _ => rfl)).squeeze S256x1024 squeezes_S1x256x1024_S256x1024
/-- Slot `p` of the rows staged to be sent as a matrix. -/
abbrev aS (p : Fin 2) : Memref sig .tc .vmem S256x1024 .f32 :=
  (aM.slice (aR p) (fun _ => rfl)).squeeze S256x1024 squeezes_S1x256x1024_S256x1024
/-- Slot `p` of the rows staged to be added as a matrix. -/
abbrev eS (p : Fin 2) : Memref sig .tc .vmem S2048x1024 .f32 :=
  (eM.slice (eR p) (fun _ => rfl)).squeeze S2048x1024 squeezes_S1x2048x1024_S2048x1024

/-- The argument's rows of chunk `s` that device `d` sends. -/
abbrev xA (d : Dev nD) (s : Fin 8) : Memref sig .tc .hbm S256x1024 .f32 :=
  (xM.slice (Rect.unit (s := S1x8192x2048) (k0_off1 d (wd s)) S1x256x1024.size (k0_off1_inb d s)) (fun _ => rfl)).squeeze
    S256x1024 squeezes_S1x256x1024_S256x1024

theorem bS_exact (s : Fin 8) : (bS s).view.WordExact :=
  ((Memref.isWhole_whole cc0_scratch2).wordExact_slice rfl _ (bR_words s)).reshape _ _

/-- The rows a transfer reads. -/
def srcM (d : Dev nD) : Tr → Memref sig .tc .vmem S256x1024 .bf16
  | (.z, s) => bS s
  | (.x, s) => gD d (.x, s)
  | (.y, s) => gD d (.y, s)
  | (.d, s) => gD d (.d, s)

theorem srcM_exact (d : Dev nD) (n : Tr) : (srcM d n).view.WordExact := by
  obtain ⟨l, s⟩ := n
  cases l
  · exact bS_exact s
  · exact gD_exact d (.x, s)
  · exact gD_exact d (.y, s)
  · exact gD_exact d (.d, s)

/-! ## The added blocks -/

/-- Where block `k` (in the order they are added: own, across the first axis, across the second, across both) lies in
    the argument. -/
def offX (d : Dev nD) : Fin 4 → Fin 3 → ℕ
  | 0 => k0_off5 d | 1 => k0_off6 d | 2 => k0_off8 d | 3 => k0_off10 d
/-- Where it lies in the gathered rows and in the result. -/
def offO (d : Dev nD) : Fin 4 → Fin 2 → ℕ
  | 0 => k0_off7 d | 1 => k0_off9 d | 2 => k0_off11 d | 3 => k0_off13 d

theorem offX_inb (d : Dev nD) : ∀ k : Fin 4, ∀ a, offX d k a + S1x2048x1024.size a ≤ S1x8192x2048.size a
  | 0 => k0_off5_inb d | 1 => k0_off6_inb d | 2 => k0_off8_inb d | 3 => k0_off10_inb d
theorem offO_inb (d : Dev nD) : ∀ k : Fin 4, ∀ a, offO d k a + S2048x1024.size a ≤ S8192x1024.size a
  | 0 => k0_off7_inb d | 1 => k0_off9_inb d | 2 => k0_off11_inb d | 3 => k0_off13_inb d

/-- Block `k` as a rectangle of the gathered rows and of the result. -/
abbrev oR (d : Dev nD) (k : Fin 4) : Rect S8192x1024 := Rect.unit (s := S8192x1024) (offO d k) S2048x1024.size (offO_inb d k)

theorem oR_packed (d : Dev nD) : ∀ k : Fin 4, (oR d k).PackedRows (EltTy.packing .bf16)
  | 0 => k0_off7_packedbf16 d | 1 => k0_off9_packedbf16 d | 2 => k0_off11_packedbf16 d | 3 => k0_off13_packedbf16 d

/-- Block `k` of the argument. -/
abbrev xB (d : Dev nD) (k : Fin 4) : Memref sig .tc .hbm S2048x1024 .f32 :=
  (xM.slice (Rect.unit (s := S1x8192x2048) (offX d k) S1x2048x1024.size (offX_inb d k)) (fun _ => rfl)).squeeze
    S2048x1024 squeezes_S1x2048x1024_S2048x1024

/-- The staging slot of block `k`. -/
def sl : Fin 4 → Fin 2 | 0 => 0 | 1 => 1 | 2 => 0 | 3 => 1

/-- The semaphore of the copies that stage the rows to send. -/
def semA : DmaSem sig := ⟨1, by decide⟩
/-- The semaphores of the copies that stage the rows to add. -/
def semB (p : Fin 2) : DmaSem sig := ⟨2 + p.val, by change 2 + p.val < 68; omega⟩
/-- The barrier semaphore. -/
abbrev barS : Sem sig := (SemArray.scalar (sig.barrier 0 rfl) : Sems sig S_).sem

/-! ## The steps -/

/-- The programs of the body. -/
abbrev Pg (F : FTy → Type) : Type 1 := Prog (TpuEff nD τ sig (Elt F) Λ₀ .tc) PUnit

/-- The handshake: signal the three partners, wait for three signals. -/
def stBar (d : Dev nD) : Pg F := do
  semSignalWord (nb d 0) barS 1#32
  semSignalWord (nb d 1) barS 1#32
  semSignalWord (nb d 2) barS 1#32
  semWaitWord barS 3#32

/-- Issue transfer `n`. -/
def stSend (d : Dev nD) (n : Tr) : Pg F :=
  Prog.lift (.enqueueDma (srcM d n) (.remote (Dev.tc (tgt d n)) (gD d n) (.dma (sndS n))) (.dma (rcvS n))
    (srcM_exact d n) (gD_exact d n) ⟨⟨rfl, Or.inl rfl⟩, trivial⟩)

/-- Wait for the arrival of transfer `n`. -/
def stRecv (d : Dev nD) (n : Tr) : Pg F := Prog.lift (.waitDma2 (rcvS n) (gA d n) (gA d n) (gA_exact d n) (gA_exact d n))

/-- Wait until transfer `n` has been read. -/
def stDrain (d : Dev nD) (n : Tr) : Pg F := Prog.lift (.waitDma2 (sndS n) (gD d n) (srcM d n) (gD_exact d n) (srcM_exact d n))

/-- The rows loaded from a staging slot, rounded. -/
def payA (v : Vec F S1x256x1024 .f32) : FVec F S1x256x1024 .bf16 :=
  shapeCast S1x256x1024 (truncf .bf16 (shapeCast S256x1024 v shapeCasts_S1x256x1024_S256x1024) bitsLt_bf16_f32) shapeCasts_S256x1024_S1x256x1024

/-- The gathered rows plus the rounded rows of the staging slot. -/
def payO (g : Vec F S2048x1024 .bf16) (v : Vec F S1x2048x1024 .f32) : FVec F S2048x1024 .bf16 :=
  addf g (truncf .bf16 (shapeCast S2048x1024 v shapeCasts_S1x2048x1024_S2048x1024) bitsLt_bf16_f32)

/-- The staging slot of chunk `s`. -/
def slA (s : Fin 8) : Fin 2 := ⟨s.val % 2, Nat.mod_lt _ (by decide)⟩

/-- Stage chunk `s`, round it, and send it on leg `z`. -/
def stA (d : Dev nD) (s : Fin 8) : Pg F := do
  Prog.lift (.enqueueDma (xA d s) (.here (aS (slA s))) (.dma semA) ((View.wordExact_bits rfl).reshape _ _) ((View.wordExact_bits rfl).reshape _ _) ⟨Or.inl rfl, trivial⟩)
  Prog.lift (.waitDma2 semA (xA d s) (aS (slA s)) ((View.wordExact_bits rfl).reshape _ _) ((View.wordExact_bits rfl).reshape _ _))
  let v : Vec F S1x256x1024 .f32 ← Prog.lift (.load aM (aR (slA s)).toLoadRect (View.loadsAt_vmem h_S1x256x1024))
  let _w : Vec F S1x256x1024 .bf16 ← Prog.lift (.load bM (bR s).toLoadRect (View.loadsAt_vmem h_S1x256x1024))
  Prog.lift (.store bM (bR s) (payA v) Finset.univ (View.stores_vmem h_S1x256x1024 ((Memref.isWhole_whole cc0_scratch2).storeExact_slice rfl _ (bR_packed s)) (fun _ => rfl)) (.inl rfl))
  stSend d (.z, s)

/-- A chunk's forwarding, for the chunks that travel on from leg `y`. -/
def stBlo (d : Dev nD) (s : Fin 8) : Pg F := do
  stRecv d (.z, s)
  stSend d (.x, s)
  stSend d (.y, s)
  stRecv d (.x, s)
  stRecv d (.y, s)
  stSend d (.d, s)

/-- A chunk's forwarding, for the chunks that travel on from leg `x`. -/
def stBhi (d : Dev nD) (s : Fin 8) : Pg F := do
  stRecv d (.z, s)
  stSend d (.x, s)
  stSend d (.y, s)
  stRecv d (.x, s)
  stSend d (.d, s)
  stRecv d (.y, s)

/-- A chunk's forwarding. -/
def stB (d : Dev nD) (s : Fin 8) : Pg F := if s.val < 4 then stBlo d s else stBhi d s

/-- One step per chunk, in order. -/
def eight (p : Fin 8 → Pg F) : Pg F := do
  p 0; p 1; p 2; p 3; p 4; p 5; p 6; p 7

/-- Start staging block `k` of the argument. -/
def stCopy (d : Dev nD) (k : Fin 4) : Pg F :=
  Prog.lift (.enqueueDma (xB d k) (.here (eS (sl k))) (.dma (semB (sl k))) ((View.wordExact_bits rfl).reshape _ _) ((View.wordExact_bits rfl).reshape _ _) ⟨Or.inl rfl, trivial⟩)

/-- Wait until block `k` is staged. -/
def stCopied (d : Dev nD) (k : Fin 4) : Pg F :=
  Prog.lift (.waitDma2 (semB (sl k)) (xB d k) (eS (sl k)) ((View.wordExact_bits rfl).reshape _ _) ((View.wordExact_bits rfl).reshape _ _))

/-- Add block `k`. -/
def stAdd (d : Dev nD) (k : Fin 4) : Pg F := do
  let g : Vec F S2048x1024 .bf16 ← Prog.lift (.load gM (oR d k).toLoadRect (View.loadsAt_vmem h_S2048x1024))
  let v : Vec F S1x2048x1024 .f32 ← Prog.lift (.load eM (eR (sl k)).toLoadRect (View.loadsAt_vmem h_S1x2048x1024))
  let _w : Vec F S2048x1024 .bf16 ← Prog.lift (.load outM (oR d k).toLoadRect (View.loadsAt_vmem h_S2048x1024))
  Prog.lift (.store outM (oR d k) (payO g v) Finset.univ (View.stores_vmem h_S2048x1024 ((Memref.isWhole_whole cc0_stg0_0).storeExact_slice rfl _ (oR_packed d k)) (fun _ => rfl)) (.inl rfl))

/-- The additions, with the last leg's arrivals before the last. -/
def stC (d : Dev nD) : Pg F := do
  stCopy d 0
  stCopy d 1
  stCopied d 0
  stAdd d 0
  stCopy d 2
  stCopied d 1
  stAdd d 1
  stCopy d 3
  stCopied d 2
  stAdd d 2
  eight fun s => stRecv d (.d, s)
  stCopied d 3
  stAdd d 3

/-- The drains of chunk `s`'s forwarded transfers. -/
def stDrainF (d : Dev nD) (s : Fin 8) : Pg F := do
  stDrain d (.x, s)
  stDrain d (.y, s)
  stDrain d (.d, s)

/-- The body. -/
def steps (d : Dev nD) : Pg F := do
  stBar d
  eight (stA d)
  eight (stB d)
  stC d
  eight fun s => stDrain d (.z, s)
  eight (stDrainF d)

set_option maxRecDepth 65536 in
set_option maxHeartbeats 4000000 in
/-- The printed body is the sequence of its steps. -/
theorem body_eq : bodyAt0 (F := F) t0_0 = (do let d ← Prog.lift .deviceId; steps d) := rfl

end Cert.KProof

end
-- ==== Proof.Mesh.lean ====
/-
# The devices, the rows and the values

Plain facts about the mesh and the buffers: which device a transfer reaches, which rows of which buffer each view names,
and the contents the protocol carries. Device `d` sits at `(x, y, z)` with `d = 4x + 2y + z`.
-/
module

public import proofs.«01_k».proof.Proof.Program
public import Idealize.ShloMosaic.Lib.Pipeline.Value
public import Idealize.ShloMosaic.Lib.ValueIdxCore
public import Idealize.ShloMosaic.Lib.Pointwise.Index
public import Idealize.ShloMosaic.Lib.Pipeline.Launch
public import Idealize.ShloMosaic.Lib.Pipeline.Kit

@[expose] public section

noncomputable section

namespace Cert.KProof

open Cert.KernelIdeal Cert.KernelIdeal.Gen
open Idealize.ShloMosaic Idealize.ShloMosaic.TcCoe Idealize.SL.Sem

variable {F : FTy → Type} [FloatOps F]

/-! ## The partners -/

theorem nb_nb : ∀ (d : Dev nD) (a : Fin 3), nb (nb d a) a = d := by decide +kernel

/-- Crossing one axis as a permutation of the devices. -/
def across (a : Fin 3) : Dev nD ≃ Dev nD := ⟨fun d => nb d a, fun d => nb d a, fun d => nb_nb d a, fun d => nb_nb d a⟩

theorem tgt_tgt (d : Dev nD) (n : Tr) : tgt (tgt d n) n = d := nb_nb d (tg n)

/-- The last coordinate of a device. -/
def zc (d : Dev nD) : Fin 2 := ⟨d.val % 2, Nat.mod_lt _ (by decide)⟩

theorem zc_nb : ∀ d : Dev nD, (zc (nb d 0)).val = 1 - (zc d).val ∧ zc (nb d 1) = zc d ∧ zc (nb d 2) = zc d := by decide +kernel
theorem zc_tgt : ∀ (d : Dev nD) (n : Tr), n.1 ≠ .z → zc (tgt d n) = zc d := by decide +kernel

/-! ## The rows -/

/-- The block of 2048 rows that leg `l` brings to device `d`. -/
def bk (d : Dev nD) : Leg → ℕ
  | .z => d.val / 2
  | .x => (d.val / 2 + 2) % 4
  | .y => d.val / 2 + 1 - 2 * ((d.val / 2) % 2)
  | .d => 3 - d.val / 2

theorem bk_lt : ∀ (d : Dev nD) (l : Leg), bk d l < 4 := by decide
theorem bk_inj : ∀ (d : Dev nD) (l l' : Leg), bk d l = bk d l' → l = l' := by decide
theorem bk_surj : ∀ (d : Dev nD) (b : Fin 4), ∃ l : Leg, bk d l = b.val := by decide

theorem offA_eq : ∀ (d : Dev nD) (n : Tr), offA d n = ![2048 * bk d n.1 + 256 * n.2.val, 0] := by decide +kernel
theorem offD_eq : ∀ (d : Dev nD) (n : Tr), offD d n = offA (tgt d n) n := by decide +kernel

/-- The arrival whose rows transfer `n` reads at home (for leg `z`, which reads none, any). -/
def par : Tr → Tr
  | (.z, s) => (.z, s)
  | (.x, s) => (.z, s)
  | (.y, s) => (.z, s)
  | (.d, s) => if s.val < 4 then (.y, s) else (.x, s)

theorem offD_par : ∀ (d : Dev nD) (n : Tr), n.1 ≠ .z → offD d n = offA d (par n) := by decide +kernel

/-- The leg that brings block `k` of those added. -/
def lg : Fin 4 → Leg | 0 => .z | 1 => .x | 2 => .y | 3 => .d

theorem offO_eq : ∀ (d : Dev nD) (k : Fin 4), offO d k = ![2048 * bk d (lg k), 0] := by decide +kernel
theorem offX_eq : ∀ (d : Dev nD) (k : Fin 4), offX d k = ![0, 2048 * bk d (lg k), 1024 * (zc d).val] := by decide +kernel
theorem off1_eq : ∀ (d : Dev nD) (s : Fin 8), k0_off1 d (wd s) = ![0, 2048 * bk d .z + 256 * s.val, 1024 - 1024 * (zc d).val] := by decide +kernel

section Slices
variable {off off' : Fin 2 → ℕ}

/-- The rows a view of 256 rows names. -/
theorem slice_set (inb : ∀ a, off a + S256x1024.size a ≤ S8192x1024.size a) :
    (gM.slice (Rect.unit (s := S8192x1024) off S256x1024.size inb) (fun _ => rfl)).view.set
      = (Rect.unit (s := S8192x1024) off S256x1024.size inb).set := View.set_slice_whole _ _

theorem slice_set_congr (h : off = off') (inb : ∀ a, off a + S256x1024.size a ≤ S8192x1024.size a)
    (inb' : ∀ a, off' a + S256x1024.size a ≤ S8192x1024.size a) :
    (gM.slice (Rect.unit (s := S8192x1024) off S256x1024.size inb) (fun _ => rfl)).view.set
      = (gM.slice (Rect.unit (s := S8192x1024) off' S256x1024.size inb') (fun _ => rfl)).view.set := by subst h; rfl

theorem slice_read_congr (h : off = off') (inb : ∀ a, off a + S256x1024.size a ≤ S8192x1024.size a)
    (inb' : ∀ a, off' a + S256x1024.size a ≤ S8192x1024.size a) (f : (cc0_scratch0 : Ref sig .tc).ty.Contents (Elt F)) :
    (gM.slice (Rect.unit (s := S8192x1024) off S256x1024.size inb) (fun _ => rfl)).view.read (Elt F) f
      = (gM.slice (Rect.unit (s := S8192x1024) off' S256x1024.size inb') (fun _ => rfl)).view.read (Elt F) f := by subst h; rfl
end Slices

/-- The rows of the gathered buffer that arrive at device `d` by transfer `n`. -/
abbrev ch (d : Dev nD) (n : Tr) : Finset S8192x1024.Idx := (gA d n).view.set

theorem gD_set (d : Dev nD) (n : Tr) : (gD d n).view.set = ch (tgt d n) n := slice_set_congr (offD_eq d n) _ _
theorem gD_set_par (d : Dev nD) (n : Tr) (h : n.1 ≠ .z) : (gD d n).view.set = ch d (par n) := slice_set_congr (offD_par d n h) _ _

theorem mem_ch (d : Dev nD) (n : Tr) (i : S8192x1024.Idx) :
    i ∈ ch d n ↔ 2048 * bk d n.1 + 256 * n.2.val ≤ (i 0).val ∧ (i 0).val < 2048 * bk d n.1 + 256 * n.2.val + 256 := by
  rw [ch, slice_set, Rect.mem_set_unit, offA_eq]
  have h1 : (i 1).val < 1024 := (i 1).isLt
  constructor
  · intro h; exact h 0
  · intro h a
    match a with
    | ⟨0, _⟩ => exact h
    | ⟨1, _⟩ => exact ⟨Nat.zero_le _, h1.trans_eq (Nat.zero_add _).symm⟩

theorem ch_disjoint (d : Dev nD) {n n' : Tr} (h : n ≠ n') : Disjoint (ch d n) (ch d n') := by
  rw [Finset.disjoint_left]
  intro i hi hi'
  rw [mem_ch] at hi hi'
  obtain ⟨l, s⟩ := n
  obtain ⟨l', s'⟩ := n'
  simp only at hi hi'
  have hs := s.isLt
  have hs' := s'.isLt
  have hl : l = l' := bk_inj d l l' (by omega)
  subst hl
  have : s = s' := Fin.ext (by omega)
  subst this
  exact h rfl

theorem ch_cover (d : Dev nD) (i : S8192x1024.Idx) : ∃ n : Tr, i ∈ ch d n := by
  have hi : (i 0).val < 8192 := (i 0).isLt
  obtain ⟨l, hl⟩ := bk_surj d ⟨(i 0).val / 2048, by omega⟩
  simp only at hl
  refine ⟨(l, ⟨(i 0).val % 2048 / 256, by omega⟩), ?_⟩
  rw [mem_ch]
  simp only [hl]
  omega

/-- The rows of block `k`. -/
abbrev bl (d : Dev nD) (k : Fin 4) : Finset S8192x1024.Idx := (oR d k).set

theorem mem_bl (d : Dev nD) (k : Fin 4) (i : S8192x1024.Idx) :
    i ∈ bl d k ↔ 2048 * bk d (lg k) ≤ (i 0).val ∧ (i 0).val < 2048 * bk d (lg k) + 2048 := by
  rw [bl, Rect.mem_set_unit, offO_eq]
  have h1 : (i 1).val < 1024 := (i 1).isLt
  constructor
  · intro h; exact h 0
  · intro h a
    match a with
    | ⟨0, _⟩ => exact h
    | ⟨1, _⟩ => exact ⟨Nat.zero_le _, h1.trans_eq (Nat.zero_add _).symm⟩

/-- A block is its eight chunks. -/
theorem bl_eq (d : Dev nD) (k : Fin 4) : bl d k = Finset.univ.biUnion fun s : Fin 8 => ch d (lg k, s) := by
  ext i
  rw [mem_bl, Finset.mem_biUnion]
  constructor
  · intro h
    refine ⟨⟨(i 0).val % 2048 / 256, by omega⟩, Finset.mem_univ _, ?_⟩
    rw [mem_ch]
    simp only
    omega
  · rintro ⟨s, -, hs⟩
    rw [mem_ch] at hs
    have := s.isLt
    simp only at hs
    omega

theorem lg_surj : ∀ l : Leg, ∃ k : Fin 4, lg k = l := by decide

theorem bl_cover (d : Dev nD) (i : S8192x1024.Idx) : ∃ k : Fin 4, i ∈ bl d k := by
  have hi : (i 0).val < 8192 := (i 0).isLt
  obtain ⟨l, hl⟩ := bk_surj d ⟨(i 0).val / 2048, by omega⟩
  obtain ⟨k, rfl⟩ := lg_surj l
  simp only at hl
  refine ⟨k, ?_⟩
  rw [mem_bl, hl]
  omega

/-! ## Views in general -/

section Views
variable {sg : RefSig} {κ : Kind} {sp : Space} {s : Shape} {e : EltTy} {Val : EltTy → Type}

/-- Writing what a view reads of some contents puts those contents under the view. -/
theorem write_read_on (v : View sg κ sp s e) (fd g : v.ty.Contents Val) {i : v.ty.Idx} (h : i ∈ v.set) :
    v.write Val fd (v.read Val g) Finset.univ i = g i := by
  obtain ⟨y, rfl⟩ := View.exists_emb_of_mem_set v h
  rw [View.write_emb_of_mem _ _ (Finset.mem_univ y), View.read_apply, cast_cast, cast_eq]

/-- Contents a view reads the same agree under it. -/
theorem eq_on_of_read_eq (v : View sg κ sp s e) {f g : v.ty.Contents Val} (h : v.read Val f = v.read Val g) {i : v.ty.Idx} (hi : i ∈ v.set) :
    f i = g i := by
  obtain ⟨y, rfl⟩ := View.exists_emb_of_mem_set v hi
  have := congrFun h y
  rw [View.read_apply, View.read_apply] at this
  exact eq_of_heq (((cast_heq _ _).symm.trans (heq_of_eq this)).trans (cast_heq _ _))
end Views

/-! ## The values -/

variable (m : (ℓ : Loc nD τ sig) → Buf (Elt F) ℓ)

/-- Device `d`'s argument. -/
def xV (d : Dev nD) : FVec F S1x8192x2048 .f32 := m ((d : Thread nD τ).loc main_arg0)

/-- The device with last coordinate `1 - z` whose own block holds row `r`. -/
def sd (z : Fin 2) (r : Fin 8192) : Dev nD := ⟨2 * (r.val / 2048) + (1 - z.val), by change _ < 8; omega⟩

/-- Column `j` of half `z` of the argument's columns. -/
def hc (z : Fin 2) (j : Fin 1024) : Fin 2048 := ⟨1024 * z.val + j.val, by omega⟩

/-- The rounded rows that the devices with last coordinate `z` gather. -/
def Gz (z : Fin 2) : FVec F S8192x1024 .bf16 := fun i =>
  FloatOps.truncf .bf16 bitsLt_bf16_f32 (xV m (sd z (i 0)) (ix3 (0 : Fin 1) (i 0) (hc z (i 1))))

/-- The rounded rows that device `d` gathers. -/
abbrev Gv (d : Dev nD) : FVec F S8192x1024 .bf16 := Gz m (zc d)

/-- The rounded rows that device `d` sends on leg `z`. -/
def Bv (d : Dev nD) : FVec F S8x256x1024 .bf16 := fun i =>
  FloatOps.truncf .bf16 bitsLt_bf16_f32 ((xA d (i 0)).view.read (Elt F) (xV m d) (ValueIdx.ix2 (i 1) (i 2)))

/-- Device `d`'s result. -/
def Ov (d : Dev nD) : FVec F S8192x1024 .bf16 := fun i =>
  FloatOps.addf (Gv m d i) (FloatOps.truncf .bf16 bitsLt_bf16_f32 (xV m d (ix3 (0 : Fin 1) (i 0) (hc (zc d) (i 1)))))

theorem Gv_tgt (d : Dev nD) (n : Tr) (h : n.1 ≠ .z) : Gv m (tgt d n) = Gv m d := by rw [Gv, zc_tgt d n h]

theorem unit_at {a b : ℕ} (h : a = b) (c : ℕ) : a + 1 * c = b + c := by rw [h, Nat.one_mul]

theorem read_xA (f : FVec F S1x8192x2048 .f32) (d : Dev nD) (s : Fin 8) (j : S256x1024.Idx) :
    (xA d s).view.read (Elt F) f j
      = f (ix3 (0 : Fin 1) ⟨2048 * bk d .z + 256 * s.val + (j 0).val, by have := bk_lt d .z; have := ValueIdx.idx2_lt0 j; have := s.isLt; omega⟩
          ⟨1024 - 1024 * (zc d).val + (j 1).val, by have := ValueIdx.idx2_lt1 j; omega⟩) := by
  rw [Memref.read_squeeze_slice _ _ _ _ shapeCasts_S1x256x1024_S256x1024, View.readAt_rect]
  refine (shapeCast_dropUnit_apply ![256, 1024] _ shapeCasts_S1x256x1024_S256x1024 j).trans ?_
  rw [View.read_apply]
  refine congrArg f (funext fun a => Fin.ext ?_)
  have e := off1_eq d s
  match a with
  | ⟨0, _⟩ =>
    show k0_off1 d (wd s) 0 + 1 * 0 = 0
    exact congrFun e 0
  | ⟨1, _⟩ =>
    show k0_off1 d (wd s) 1 + 1 * (j 0).val = _
    exact unit_at (congrFun e 1) _
  | ⟨2, _⟩ =>
    show k0_off1 d (wd s) 2 + 1 * (j 1).val = _
    exact unit_at (congrFun e 2) _

theorem read_xB (f : FVec F S1x8192x2048 .f32) (d : Dev nD) (k : Fin 4) (j : S2048x1024.Idx) :
    (xB d k).view.read (Elt F) f j
      = f (ix3 (0 : Fin 1) ⟨2048 * bk d (lg k) + (j 0).val, by have := bk_lt d (lg k); have := ValueIdx.idx2_lt0 j; omega⟩
          (hc (zc d) (j 1))) := by
  rw [Memref.read_squeeze_slice _ _ _ _ shapeCasts_S1x2048x1024_S2048x1024, View.readAt_rect]
  refine (shapeCast_dropUnit_apply ![2048, 1024] _ shapeCasts_S1x2048x1024_S2048x1024 j).trans ?_
  rw [View.read_apply]
  refine congrArg f (funext fun a => Fin.ext ?_)
  have e := offX_eq d k
  match a with
  | ⟨0, _⟩ =>
    show offX d k 0 + 1 * 0 = 0
    exact congrFun e 0
  | ⟨1, _⟩ =>
    show offX d k 1 + 1 * (j 0).val = _
    exact unit_at (congrFun e 1) _
  | ⟨2, _⟩ =>
    show offX d k 2 + 1 * (j 1).val = _
    exact unit_at (congrFun e 2) _

theorem emb_bS (s : Fin 8) (j : S256x1024.Idx) :
    (bM.view.slice (bR s)).emb (Fin.cons ⟨0, Nat.one_pos⟩ j) = ix3 s (j 0) (j 1) := by
  refine funext fun a => Fin.ext ?_
  match a with
  | ⟨0, _⟩ => show s.val + 1 * 0 = s.val; omega
  | ⟨1, _⟩ => show 0 + 1 * (j 0).val = (j 0).val; omega
  | ⟨2, _⟩ => show 0 + 1 * (j 1).val = (j 1).val; omega

/-- The slot of chunk `s` read as a matrix. -/
theorem read_bS (f : FVec F S8x256x1024 .bf16) (s : Fin 8) (j : S256x1024.Idx) :
    (bS s).view.read (Elt F) f j = f (ix3 s (j 0) (j 1)) := by
  rw [Memref.read_squeeze_slice _ _ _ _ shapeCasts_S1x256x1024_S256x1024, View.readAt_rect]
  refine (shapeCast_dropUnit_apply ![256, 1024] _ shapeCasts_S1x256x1024_S256x1024 j).trans ?_
  rw [View.read_apply]
  exact congrArg f (emb_bS s j)

/-- The rows of an arrival read as a matrix. -/
theorem read_gA (f : FVec F S8192x1024 .bf16) (d : Dev nD) (n : Tr) (j : S256x1024.Idx) :
    (gA d n).view.read (Elt F) f j
      = f (ValueIdx.ix2 ⟨2048 * bk d n.1 + 256 * n.2.val + (j 0).val, by have := bk_lt d n.1; have := ValueIdx.idx2_lt0 j; have := n.2.isLt; omega⟩ (j 1)) := by
  rw [View.read_apply]
  refine congrArg f (funext fun a => Fin.ext ?_)
  have e := offA_eq d n
  match a with
  | ⟨0, _⟩ =>
    show offA d n 0 + 1 * (j 0).val = _
    exact unit_at (congrFun e 0) _
  | ⟨1, _⟩ =>
    show offA d n 1 + 1 * (j 1).val = (j 1).val
    exact (unit_at (congrFun e 1) _).trans (Nat.zero_add _)

theorem gD_read (f : FVec F S8192x1024 .bf16) (d : Dev nD) (n : Tr) :
    (gD d n).view.read (Elt F) f = (gA (tgt d n) n).view.read (Elt F) f := slice_read_congr (offD_eq d n) _ _ f

/-- What leg `z` reads of the rows to send is what its target gathers. -/
theorem read_z (d : Dev nD) (s : Fin 8) :
    (bS s).view.read (Elt F) (Bv m d) = (gD d (.z, s)).view.read (Elt F) (Gv m (tgt d (.z, s))) := by
  funext j
  rw [gD_read, read_gA, read_bS]
  have hz : (zc (tgt d (.z, s))).val = 1 - (zc d).val := (zc_nb d).1
  have hb : bk (tgt d (.z, s)) .z = d.val / 2 := (by decide +kernel : ∀ d : Dev nD, bk (nb d 0) .z = d.val / 2) d
  have hd : (zc d).val = d.val % 2 := rfl
  have hj : (j 0).val < 256 := ValueIdx.idx2_lt0 j
  have hs := s.isLt
  unfold Bv Gv Gz
  refine congrArg (FloatOps.truncf .bf16 bitsLt_bf16_f32) ?_
  show (xA d s).view.read (Elt F) (xV m d) (ValueIdx.ix2 (j 0) (j 1)) = _
  rw [read_xA]
  have e1 : sd (zc (tgt d (.z, s))) ⟨2048 * bk (tgt d (.z, s)) .z + 256 * s.val + (j 0).val, by have := bk_lt (tgt d (.z, s)) .z; omega⟩ = d := by
    refine Fin.ext ?_
    show 2 * ((2048 * bk (tgt d (.z, s)) .z + 256 * s.val + (j 0).val) / 2048) + (1 - (zc (tgt d (.z, s))).val) = d.val
    rw [hz, hb]
    omega
  show xV m d _ = xV m (sd (zc (tgt d (.z, s))) ⟨2048 * bk (tgt d (.z, s)) .z + 256 * s.val + (j 0).val, _⟩) _
  rw [e1]
  refine congrArg (xV m d) (funext fun a => Fin.ext ?_)
  match a with
  | ⟨0, _⟩ => rfl
  | ⟨1, _⟩ =>
    show 2048 * bk d .z + 256 * s.val + (j 0).val = 2048 * bk (tgt d (.z, s)) .z + 256 * s.val + (j 0).val
    rw [hb]; rfl
  | ⟨2, _⟩ =>
    show 1024 - 1024 * (zc d).val + (j 1).val = 1024 * (zc (tgt d (.z, s))).val + (j 1).val
    rw [hz]
    omega

/-! ### What the steps store -/

theorem payA_cast (v : Vec F S1x256x1024 .f32) :
    shapeCast S256x1024 (payA v) shapeCasts_S1x256x1024_S256x1024 = truncf .bf16 (shapeCast S256x1024 v shapeCasts_S1x256x1024_S256x1024) bitsLt_bf16_f32 :=
  shapeCast_shapeCast _ _ _

/-- The chunk staged, rounded and stored is the slot's contents. -/
theorem store_b (d : Dev nD) (p : Fin 2) (s : Fin 8) (fa : (cc0_scratch1 : Ref sig .tc).ty.Contents (Elt F))
    (fb : (cc0_scratch2 : Ref sig .tc).ty.Contents (Elt F)) {i : S8x256x1024.Idx} (hi : i ∈ (bS s).view.set) :
    (bM.access (bR s)).write (Elt F) fb
        (payA (aM.view.readAt (Elt F) (aR p).toLoadRect ((aS p).view.write (Elt F) fa ((xA d s).view.read (Elt F) (xV m d)) Finset.univ))) Finset.univ i
      = Bv m d i := by
  refine eq_on_of_read_eq (bS s).view ?_ hi
  refine Eq.trans (b := truncf .bf16 ((xA d s).view.read (Elt F) (xV m d)) bitsLt_bf16_f32) ?_ ?_
  · refine (Memref.read_squeeze_slice bM (bR s) (fun _ => rfl) squeezes_S1x256x1024_S256x1024 shapeCasts_S1x256x1024_S256x1024 _).trans ?_
    rw [View.readAt_rect]
    refine (congrArg (fun w => shapeCast S256x1024 w shapeCasts_S1x256x1024_S256x1024)
      (View.read_write_univ (Val := Elt F) (v := bM.view.slice (bR s)) fb _)).trans ?_
    refine (payA_cast _).trans ?_
    refine congrArg (fun w => truncf .bf16 w bitsLt_bf16_f32) ?_
    refine (Memref.read_squeeze_slice aM (aR p) (fun _ => rfl) squeezes_S1x256x1024_S256x1024 shapeCasts_S1x256x1024_S256x1024 _).symm.trans ?_
    exact View.read_write_univ _ _
  · funext j
    refine Eq.trans ?_ (read_bS (Bv m d) s j).symm
    show FloatOps.truncf .bf16 bitsLt_bf16_f32 ((xA d s).view.read (Elt F) (xV m d) j) =
      FloatOps.truncf .bf16 bitsLt_bf16_f32 ((xA d s).view.read (Elt F) (xV m d) (ValueIdx.ix2 (j 0) (j 1)))
    exact congrArg (fun i => FloatOps.truncf .bf16 bitsLt_bf16_f32 ((xA d s).view.read (Elt F) (xV m d) i)) (ValueIdx.eq_ix2 j)

/-- The block added and stored is the result's. -/
theorem store_o (d : Dev nD) (k : Fin 4) (p : Fin 2) (fe : (cc0_scratch3 : Ref sig .tc).ty.Contents (Elt F))
    (fo : (cc0_stg0_0 : Ref sig .tc).ty.Contents (Elt F)) {i : S8192x1024.Idx} (hi : i ∈ bl d k) :
    (outM.access (oR d k)).write (Elt F) fo
        (payO (gM.view.readAt (Elt F) (oR d k).toLoadRect (Gv m d))
          (eM.view.readAt (Elt F) (eR p).toLoadRect ((eS p).view.write (Elt F) fe ((xB d k).view.read (Elt F) (xV m d)) Finset.univ))) Finset.univ i
      = Ov m d i := by
  have hi' : i ∈ (outM.view.slice (oR d k)).set := (congrArg (i ∈ ·) (View.set_slice_whole cc0_stg0_0 (oR d k))).mpr hi
  refine eq_on_of_read_eq (outM.view.slice (oR d k)) ?_ hi'
  refine (View.read_write_univ (Val := Elt F) (v := outM.view.slice (oR d k)) fo _).trans ?_
  funext j
  unfold payO
  rw [← Memref.read_squeeze_slice eM (eR p) (fun _ => rfl) squeezes_S1x2048x1024_S2048x1024 shapeCasts_S1x2048x1024_S2048x1024, View.read_write_univ,
    View.read_apply]
  show FloatOps.addf (Gv m d ((oR d k).emb j)) (FloatOps.truncf .bf16 bitsLt_bf16_f32 ((xB d k).view.read (Elt F) (xV m d) j)) = Ov m d ((oR d k).emb j)
  unfold Ov
  refine congrArg (fun t => FloatOps.addf (Gv m d ((oR d k).emb j)) (FloatOps.truncf .bf16 bitsLt_bf16_f32 t)) ?_
  rw [read_xB]
  have e := offO_eq d k
  refine congrArg (xV m d) (funext fun a => Fin.ext ?_)
  match a with
  | ⟨0, _⟩ => rfl
  | ⟨1, _⟩ =>
    show 2048 * bk d (lg k) + (j 0).val = offO d k 0 + 1 * (j 0).val
    exact (unit_at (congrFun e 0) _).symm
  | ⟨2, _⟩ =>
    show 1024 * (zc d).val + (j 1).val = 1024 * (zc d).val + (offO d k 1 + 1 * (j 1).val)
    exact congrArg _ ((unit_at (congrFun e 1) _).trans (Nat.zero_add _)).symm

end Cert.KProof

end
-- ==== Proof.Schedule.lean ====
/-
# The schedule of the kernel's semaphores

One round on each cell. A barrier cell takes one unit from each of the three partners; a partner's unit carries the rows
of its gathered buffer that the signalled device will write. A send cell takes the credit of its one transfer and returns the rows
the transfer read; a receive cell takes the credit of its one transfer and carries the rows that landed, with their contents.
The other three semaphores are those of copies within a device and need no schedule.
-/
module

public import proofs.«01_k».proof.Proof.Mesh
public import Idealize.ShloMosaic.Lib.Transfers
public import Idealize.ShloMosaic.Lib.Tactic

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra: the pipeline's rounds, the cells' rounds, the counters of the copies within a device -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The cells' rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ)

/-! ## The cells -/

/-- A device's scheduled semaphores: the barrier, the transfers' send semaphores, their receive semaphores. -/
abbrev CI : Type := Unit ⊕ (Tr ⊕ Tr)

def csem : CI → SemLoc sig
  | .inl _ => .reg barS
  | .inr (.inl n) => .dma (sndS n)
  | .inr (.inr n) => .dma (rcvS n)

abbrev kcell (ck : Dev nD × CI) : GSem nD τ sig := ((ck.1 : Thread nD τ), csem ck.2)
abbrev barC (c : Dev nD) : GSem nD τ sig := kcell (c, .inl ())
abbrev sndC (c : Dev nD) (n : Tr) : GSem nD τ sig := kcell (c, .inr (.inl n))
abbrev rcvC (c : Dev nD) (n : Tr) : GSem nD τ sig := kcell (c, .inr (.inr n))

theorem sndS_val (n : Tr) : (sndS n).val = 4 + 8 * n.1.ix + n.2.val := rfl
theorem rcvS_val (n : Tr) : (rcvS n).val = 36 + 8 * n.1.ix + n.2.val := rfl

theorem tr_eq {n n' : Tr} (h : 8 * n.1.ix + n.2.val = 8 * n'.1.ix + n'.2.val) : n = n' := by
  obtain ⟨l, s⟩ := n
  obtain ⟨l', s'⟩ := n'
  have hs := s.isLt
  have hs' := s'.isLt
  simp only at h
  have hl : l.ix = l'.ix := by omega
  have : l = l' := by cases l <;> cases l' <;> first | rfl | exact absurd hl (by decide)
  subst this
  have : s = s' := Fin.ext (by omega)
  subst this
  rfl

theorem tr_lt (n : Tr) : 8 * n.1.ix + n.2.val < 32 := by
  obtain ⟨l, s⟩ := n
  have hs := s.isLt
  cases l <;> simp only [Leg.ix] <;> omega

theorem csem_inj : Function.Injective csem := by
  intro k k' h
  rcases k with u | n | n <;> rcases k' with u' | n' | n' <;>
    simp only [csem, SemLoc.reg.injEq, SemLoc.dma.injEq, reduceCtorEq] at h
  · rfl
  · have h := congrArg Fin.val h
    rw [sndS_val, sndS_val] at h
    rw [tr_eq (n := n) (n' := n') (by omega)]
  · have h := congrArg Fin.val h
    rw [sndS_val, rcvS_val] at h
    have := tr_lt n
    omega
  · have h := congrArg Fin.val h
    rw [rcvS_val, sndS_val] at h
    have := tr_lt n'
    omega
  · have h := congrArg Fin.val h
    rw [rcvS_val, rcvS_val] at h
    rw [tr_eq (n := n) (n' := n') (by omega)]

/-- Which scheduled semaphore a semaphore is, if any. -/
def kOf (s : SemLoc sig) : Option CI := by
  classical exact if h : ∃ k, csem k = s then some h.choose else none

@[simp] theorem kOf_csem (k : CI) : kOf (csem k) = some k := by
  have h : ∃ k', csem k' = csem k := ⟨k, rfl⟩
  unfold kOf
  rw [dif_pos h]
  exact congrArg some (csem_inj h.choose_spec)

theorem kOf_small (q : DmaSem sig) (h : q.val < 4) : kOf (.dma q) = none := by
  unfold kOf
  refine dif_neg ?_
  rintro ⟨k, hk⟩
  rcases k with u | n | n <;> simp only [csem, SemLoc.dma.injEq, reduceCtorEq] at hk
  · have hk := congrArg Fin.val hk
    rw [sndS_val] at hk
    omega
  · have hk := congrArg Fin.val hk
    rw [rcvS_val] at hk
    omega

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The credit of one chunk. -/
abbrev N : ℕ := (gA 0 (.z, 0)).view.dmaCredit
theorem N_pos : 0 < N := View.dmaCredit_pos _ (by decide)

/-! ## What the units carry -/

/-- The rows of device `c`'s gathered buffer that arrive by `n`, gathered, at a share. -/
def gPts (c : Dev nD) (n : Tr) (q : PosShare TreeShare) : sProp 𝕄 :=
  gM.view.loc (c : Thread nD τ) ↦[ch c n]{q} (Gv m c)

/-- The rows device `c` writes by `n`, on the target, whatever they hold. -/
def Dst (c : Dev nD) (n : Tr) : sProp 𝕄 :=
  iprop(∃ f : Buf (Elt F) (gM.view.loc (tgt c n : Thread nD τ)), gM.view.loc (tgt c n : Thread nD τ) ↦[ch (tgt c n) n]{fullShare} f)

/-- Slot `s` of the rows to send, rounded. -/
def bPts (c : Dev nD) (s : Fin 8) : sProp 𝕄 :=
  (bS s).view.loc (c : Thread nD τ) ↦[(bS s).view.set]{fullShare} (Bv m c)

/-- What the partner across axis `a` hands device `c`. -/
def barPay (c : Dev nD) (a : Fin 3) : sProp 𝕄 := bigSep (Finset.univ.filter fun n : Tr => tg n = a) fun n => Dst (F := F) c n

/-- The rows a transfer reads. -/
def sendPay (c : Dev nD) : Tr → sProp 𝕄
  | (.z, s) => bPts m c s
  | (.x, s) => gPts m c (.z, s) fullShare.right.left
  | (.y, s) => gPts m c (.z, s) fullShare.right.right
  | (.d, s) => gPts m c (par (.d, s)) fullShare.right

/-- The rows that landed. -/
def recvPay (c : Dev nD) (n : Tr) : sProp 𝕄 := gPts m c n fullShare

instance gPts_storable (c : Dev nD) (n : Tr) (q) : BI.Storable (upEmb : UEmb _ 𝕄) (gPts m c n q) := by unfold gPts; infer_instance
instance Dst_storable (c : Dev nD) (n : Tr) : BI.Storable (upEmb : UEmb _ 𝕄) (Dst (F := F) c n) := by unfold Dst; infer_instance
instance barPay_storable (c : Dev nD) (a : Fin 3) : BI.Storable (upEmb : UEmb _ 𝕄) (barPay (F := F) c a) := by unfold barPay; infer_instance
instance sendPay_storable (c : Dev nD) (n : Tr) : BI.Storable (upEmb : UEmb _ 𝕄) (sendPay m c n) := by
  obtain ⟨l, s⟩ := n
  cases l <;> unfold sendPay <;> first | infer_instance | (unfold bPts; infer_instance)

/-! ## The schedule -/

def dutiesOf : Option CI → Finset (Fin 3)
  | some (.inl _) => Finset.univ
  | some (.inr _) => {0}
  | none => ∅
def amountOf : Option CI → ℕ
  | some (.inl _) => 1
  | _ => N
def payOf (c : Dev nD) (a : Fin 3) : Option CI → sProp 𝕄
  | some (.inl _) => barPay c a
  | some (.inr (.inl n)) => sendPay m c n
  | some (.inr (.inr n)) => recvPay m c n
  | none => iprop(emp)

instance payOf_storable (c : Dev nD) (a : Fin 3) (o : Option CI) : BI.Storable (upEmb : UEmb _ 𝕄) (payOf m c a o) := by
  rcases o with _ | u | n | n <;> unfold payOf
  · infer_instance
  · infer_instance
  · infer_instance
  · unfold recvPay; infer_instance

def Rd : Rounds.Schedule (GSem nD τ sig) (Fin 3) 𝕄 where
  duties g r := if r = 0 ∧ g.1.2 = .tc then dutiesOf (kOf g.2) else ∅
  unitless _ := False
  amount g _ _ := amountOf (kOf g.2)
  payload g _ a := payOf m g.1.1 a (kOf g.2)
  amount_pos g _ _ _ := by
    rcases kOf g.2 with _ | u | n <;> unfold amountOf
    · exact N_pos
    · exact Nat.one_pos
    · exact N_pos

instance Rd_storable (g : GSem nD τ sig) (r : ℕ) (a : Fin 3) : BI.Storable (upEmb : UEmb _ 𝕄) ((Rd m).payload g r a) :=
  payOf_storable m g.1.1 a (kOf g.2)

theorem duties_at (c : Dev nD) (k : CI) : (Rd m).duties (kcell (c, k)) 0 = dutiesOf (some k) := by
  show (if 0 = 0 ∧ (Proc.tc : Proc τ) = .tc then dutiesOf (kOf (csem k)) else ∅) = _
  rw [if_pos ⟨rfl, rfl⟩, kOf_csem]
theorem duties_later (g : GSem nD τ sig) : ∀ r, 1 ≤ r → (Rd m).duties g r = ∅ :=
  fun r hr => by dsimp only [Rd]; exact if_neg fun h => by omega
theorem amount_at (c : Dev nD) (k : CI) (r : ℕ) (a : Fin 3) : (Rd m).amount (kcell (c, k)) r a = amountOf (some k) :=
  congrArg amountOf (kOf_csem k)
theorem payload_at (c : Dev nD) (k : CI) (r : ℕ) (a : Fin 3) : (Rd m).payload (kcell (c, k)) r a = payOf m c a (some k) :=
  congrArg (payOf m c a) (kOf_csem k)

theorem expect_bar (c : Dev nD) : (Rd m).expect (barC c) 0 = 3 := by
  unfold Schedule.expect Schedule.amountOf
  rw [duties_at, Finset.sum_congr rfl fun a _ => amount_at m c (.inl ()) 0 a]
  rfl
theorem expect_tr (c : Dev nD) (k : Tr ⊕ Tr) : (Rd m).expect (kcell (c, .inr k)) 0 = N := by
  unfold Schedule.expect Schedule.amountOf
  rw [duties_at, Finset.sum_congr rfl fun a _ => amount_at m c (.inr k) 0 a]
  exact Finset.sum_singleton _ _

theorem rest_bar (c : Dev nD) : bigSep ((Rd m).duties (barC c) 0 \ ∅) (fun a => (Rd m).payload (barC c) 0 a)
    = bigSep Finset.univ fun a : Fin 3 => barPay (F := F) c a := by
  rw [Finset.sdiff_empty, duties_at]
  exact bigSep_congr fun a _ => payload_at m c (.inl ()) 0 a
theorem rest_tr (c : Dev nD) (k : Tr ⊕ Tr) : bigSep ((Rd m).duties (kcell (c, .inr k)) 0 \ ∅) (fun a => (Rd m).payload (kcell (c, .inr k)) 0 a)
    = payOf m c 0 (some (.inr k)) := by
  rw [Finset.sdiff_empty, duties_at]
  refine (show bigSep {(0 : Fin 3)} _ = _ from bigSep_singleton).trans ?_
  exact payload_at m c (.inr k) 0 0

/-! ## What is owed, and the levels -/

/-- The place of a transfer among a device's transfers. -/
def ord : Tr → ℕ
  | (.z, s) => s.val
  | (.x, s) => 8 + 3 * s.val
  | (.y, s) => 9 + 3 * s.val
  | (.d, s) => 10 + 3 * s.val

theorem ord_inj : ∀ n n' : Tr, ord n = ord n' → n = n' := by decide

/-- What device `c` owes the receivers once its first `t` transfers are issued. -/
def Ow (c : Dev nD) (t : ℕ) : CellTallies nD τ sig Unit := ∑ n ∈ Finset.univ.filter (fun n : Tr => t ≤ ord n), tallyAt (rcvC (tgt c n) n) () N

theorem Ow_succ (c : Dev nD) (n : Tr) : Ow c (ord n) = Ow c (ord n + 1) + tallyAt (rcvC (tgt c n) n) () N := by
  unfold Ow
  have h : Finset.univ.filter (fun n' : Tr => ord n ≤ ord n') = insert n (Finset.univ.filter fun n' : Tr => ord n + 1 ≤ ord n') := by
    ext n'
    simp only [Finset.mem_filter, Finset.mem_univ, true_and, Finset.mem_insert]
    constructor
    · intro h
      by_cases he : n' = n
      · exact .inl he
      · exact .inr (by have : ord n ≠ ord n' := fun e => he (ord_inj _ _ e).symm
                       omega)
    · rintro (rfl | h)
      · exact Nat.le_refl _
      · omega
  rw [h, Finset.sum_insert (by simp), add_comm]

theorem ord_lt : ∀ n : Tr, ord n < 32 := by decide
theorem Ow_end (c : Dev nD) : Ow c 32 = 0 := by
  unfold Ow
  rw [Finset.filter_false_of_mem (fun n _ => by have := ord_lt n; omega), Finset.sum_empty]

/-- The barrier's units still owed when the signals to the first `a` partners are out. -/
def O₃ (c : Dev nD) : CellTallies nD τ sig Unit := Ow c 0
def O₂ (c : Dev nD) : CellTallies nD τ sig Unit := O₃ c + tallyAt (barC (nb c 2)) () 1
def O₁ (c : Dev nD) : CellTallies nD τ sig Unit := O₂ c + tallyAt (barC (nb c 1)) () 1
def O₀ (c : Dev nD) : CellTallies nD τ sig Unit := O₁ c + tallyAt (barC (nb c 0)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The level of a receive cell. -/
def lvR : Tr → ℕ
  | (.z, _) => 2
  | (.x, s) => 3 + s.val
  | (.y, s) => 3 + s.val
  | (.d, _) => 100

def lvOf : Option CI → ℕ
  | some (.inl _) => 1
  | some (.inr (.inr n)) => lvR n
  | _ => 0
def lv (g : GSem nD τ sig) (_ : Unit) : ℕ := lvOf (kOf g.2)

theorem Ow_pos {c : Dev nD} {t : ℕ} {g : GSem nD τ sig} {u : Unit} (h : 0 < Ow c t g u) : ∃ n, t ≤ ord n ∧ g = rcvC (tgt c n) n := by
  unfold Ow at h
  rw [Finset.sum_apply, Finsupp.finset_sum_apply] at h
  obtain ⟨n, hn, hp⟩ := Finset.exists_ne_zero_of_sum_ne_zero (Nat.pos_iff_ne_zero.mp h)
  refine ⟨n, (Finset.mem_filter.mp hn).2, ?_⟩
  rw [tallyAt_apply] at hp
  by_contra hg
  exact hp (if_neg fun h' => hg h'.1)

/-- A wait is admissible below every level still owed. -/
theorem mayWait_Ow (c : Dev nD) (sm : SemLoc sig) (t : ℕ) (h : ∀ n, t ≤ ord n → lvOf (kOf sm) < lvR n) :
    (levAts L lv : sProp 𝕄) ⊢ MayWait (c : Thread nD τ) sm () (Ow c t) :=
  MayOwe.of_cut (L := L) (lev := lv) (lvOf (kOf sm)) (fun p hp => by rw [Finset.mem_singleton.mp hp, L_tc]; exact Finset.mem_singleton_self _)
    (fun g u hg => by obtain ⟨n, -, rfl⟩ := Ow_pos hg; rw [L_tc]; exact Finset.mem_singleton_self _)
    (fun p hp => by rw [Finset.mem_singleton.mp hp]; exact Nat.le_refl _)
    (fun g u hg => by
      obtain ⟨n, hn, rfl⟩ := Ow_pos hg
      show lvOf (kOf sm) < lvOf (kOf (csem (.inr (.inr n))))
      rw [kOf_csem]
      exact h n hn)

/-- At launch everything owed lies above level 0. -/
theorem mayWait_O₀ (c : Dev nD) (sm : SemLoc sig) (h : lvOf (kOf sm) = 0) :
    (levAts L lv : sProp 𝕄) ⊢ MayWait (c : Thread nD τ) sm () (O₀ c) := by
  have hp : ∀ {g : GSem nD τ sig} {u : Unit}, 0 < O₀ c g u → ∃ d k, g = kcell (d, k) ∧ 0 < lvOf (some k) := by
    intro g u h
    unfold O₀ O₁ O₂ at h
    simp only [Pi.add_apply, Finsupp.add_apply] at h
    have hb : ∀ a, 0 < (tallyAt (barC (nb c a)) () 1 : CellTallies nD τ sig Unit) g u → ∃ d k, g = kcell (d, k) ∧ 0 < lvOf (some k) := by
      intro a ha
      rw [tallyAt_apply] at ha
      by_cases hg : g = barC (nb c a) ∧ u = ()
      · exact ⟨nb c a, .inl (), hg.1, Nat.one_pos⟩
      · rw [if_neg hg] at ha; exact absurd ha (Nat.lt_irrefl 0)
    by_cases h0 : 0 < (tallyAt (barC (nb c 0)) () 1 : CellTallies nD τ sig Unit) g u
    · exact hb 0 h0
    by_cases h1 : 0 < (tallyAt (barC (nb c 1)) () 1 : CellTallies nD τ sig Unit) g u
    · exact hb 1 h1
    by_cases h2 : 0 < (tallyAt (barC (nb c 2)) () 1 : CellTallies nD τ sig Unit) g u
    · exact hb 2 h2
    obtain ⟨n, -, hn⟩ := Ow_pos (c := c) (t := 0) (g := g) (u := u) (by unfold O₃ at h; omega)
    exact ⟨_, _, hn, by obtain ⟨l, s⟩ := n; cases l <;> simp only [lvOf, lvR] <;> omega⟩
  refine MayOwe.of_cut (L := L) (lev := lv) 0 (fun p hp => by rw [Finset.mem_singleton.mp hp, L_tc]; exact Finset.mem_singleton_self _)
    (fun g u hg => by obtain ⟨d, k, rfl, -⟩ := hp hg; rw [L_tc]; exact Finset.mem_singleton_self _)
    (fun p hp => by rw [Finset.mem_singleton.mp hp]; exact Nat.le_of_eq h)
    (fun g u hg => by
      obtain ⟨d, k, rfl, hk⟩ := hp hg
      show 0 < lvOf (kOf (csem k))
      rw [kOf_csem]
      exact hk)

end Cert.KProof

end
-- ==== Proof.Steps.lean ====
/-
# The steps, one rule each

What each step of the body takes and gives back, at any device. `Ctx` is what every step may use: the cells' invariants,
that each cell is at its round, and the levels.
-/
module

public import proofs.«01_k».proof.Proof.Schedule
public import Idealize.ShloMosaic.Lib.SparseCore.FromWhole

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

abbrev 𝒱₀ : Variants := Variants.none

/-- The weakest precondition of a program on device `c`'s core. -/
abbrev wpc (c : Dev nD) (p : Pg F) (Q : PUnit → sProp 𝕄) : sProp 𝕄 :=
  wp frame (wpE (defs₀ (F := F)) 𝒱₀ (c : Thread nD τ) none) Set.univ p Q

/-- What every step may use. -/
def Ctx : sProp 𝕄 :=
  iprop((bigSep Finset.univ fun ck : Dev nD × CI => cellInv ER (Rd m) (K ck) (kcell ck))
    ∗ (bigSep Finset.univ fun ck : Dev nD × CI => reached ER (kcell ck) 0) ∗ levAts L lv)

instance Ctx_persistent : BI.Persistent (Ctx m K) := by unfold Ctx; infer_instance

theorem inv_at (ck : Dev nD × CI) :
    (bigSep Finset.univ fun ck : Dev nD × CI => (cellInv ER (Rd m) (K ck) (kcell ck) : sProp 𝕄)) ⊢ cellInv ER (Rd m) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem Ctx_inv (ck : Dev nD × CI) : Ctx m K ⊢ cellInv ER (Rd m) (K ck) (kcell ck) := by
  unfold Ctx
  iintro ⟨#H, -⟩
  iapply (inv_at m K ck)
  iexact H
theorem Ctx_reached (ck : Dev nD × CI) : Ctx m K ⊢ reached ER (kcell ck) 0 := by
  unfold Ctx
  iintro ⟨-, #H, -⟩
  iapply (reached_at (F := F) ck)
  iexact H
theorem Ctx_lev : Ctx m K ⊢ levAts L lv := by
  unfold Ctx
  iintro ⟨-, -, #H⟩
  iexact H

/-- What device `c` owes, whatever it has waited for. -/
def Owe (c : Dev nD) (O : CellTallies nD τ sig Unit) : sProp 𝕄 := iprop(∃ W : Waits sig Unit, owes (c : Thread nD τ) O W)

/-- A cell of a transfer at its round, with the credit to wait on it. -/
def Wt (c : Dev nD) (k : Tr ⊕ Tr) : sProp 𝕄 :=
  iprop(atPos ER (kcell (c, .inr k)) 0 ∅ 0 ∗ cred (tallyAt (kcell (c, .inr k)) () N))

/-- A wait on a transfer's cell, by whatever operation waits: its payload, and the cell closed at zero. -/
theorem wp_wait_tr (c : Dev nD) (k : Tr ⊕ Tr) (t : ℕ) (ht : ∀ n, t ≤ ord n → lvOf (some (.inr k)) < lvR n)
    {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (csem (.inr k)) N K)
    (Q : PUnit → sProp 𝕄) :
    iprop(Ctx m K ∗ Wt c k ∗ Owe c (Ow c t))
      ⊢ iprop(((Owe c (Ow c t) ∗ semVal (kcell (c, .inr k)) 0 ∗ payOf m c 0 (some (.inr k))) -∗ Q ⟨⟩) -∗ wpc c (Prog.lift w) Q) := by
  unfold Wt Owe
  iintro ⟨#HC, ⟨Hat, Hcr⟩, ⟨%W, HO⟩⟩ Hk
  ihave #HI := (Ctx_inv m K (c, .inr k)) $$ HC
  iapply (Rounds.wp_wait_rest_token 𝒱₀ ER (Rd m) (c : Thread nD τ) none (κ := K (c, .inr k)) hw (Set.mem_univ _) ()
      (O := Ow c t) (W := W) (R := 0) (m := 0) (T := ∅) (by rw [Nat.zero_add]; exact (expect_tr m c k).symm)) $$ [Hat Hcr HO]
  · isplitr; · iexact HI
    isplitl [Hcr]; · iexact Hcr
    isplitl [HO]; · iexact HO
    isplitr
    · iapply (mayWait_Ow c (csem (.inr k)) t (by rw [kOf_csem]; exact ht))
      iapply (Ctx_lev m K); iexact HC
    iexact Hat
  iintro ⟨HO, Hat, -, Hpay⟩
  ihave Hp := (Entails.of_eq (rest_tr m c k)) $$ Hpay
  imod (Rounds.cell_close ER (Rd m) (Set.mem_univ (K (c, .inr k))) (fun h => h) (R := 0 + 1) (duties_later m (kcell (c, .inr k)))) $$ [Hat] with Hz
  · isplitr; · iexact HI
    iexact Hat
  rw [wp_ret]
  imodintro
  iapply Hk
  isplitl [HO]; · iexists _; iexact HO
  isplitl [Hz]; · iexact Hz
  iexact Hp

/-- The wait for an arrival: the rows that landed. -/
theorem wp_recv (c : Dev nD) (n : Tr) (t : ℕ) (ht : ∀ n', t ≤ ord n' → lvR n < lvR n') (Q : PUnit → sProp 𝕄) :
    iprop(Ctx m K ∗ Wt c (.inr n) ∗ Owe c (Ow c t))
      ⊢ iprop(((Owe c (Ow c t) ∗ semVal (rcvC c n) 0 ∗ gPts m c n fullShare) -∗ Q ⟨⟩) -∗ wpc c (stRecv c n) Q) :=
  wp_wait_tr m K c (.inr n) t ht (w := .waitDma2 (rcvS n) (gA c n) (gA c n) (gA_exact c n) (gA_exact c n))
    (wpE_waitDma2_eq (dst := gA c n) 𝒱₀ (c : Thread nD τ) none Set.univ) Q

/-- The wait for a transfer to have been read: the rows it read. -/
theorem wp_drain (c : Dev nD) (n : Tr) (t : ℕ) (ht : ∀ n' : Tr, ¬ t ≤ ord n') (Q : PUnit → sProp 𝕄) :
    iprop(Ctx m K ∗ Wt c (.inl n) ∗ Owe c (Ow c t))
      ⊢ iprop(((Owe c (Ow c t) ∗ semVal (sndC c n) 0 ∗ sendPay m c n) -∗ Q ⟨⟩) -∗ wpc c (stDrain c n) Q) := by
  have h := wp_wait_tr m K c (.inl n) t (fun n' h => absurd h (ht n'))
    (w := .waitDma2 (sndS n) (gD c n) (srcM c n) (gD_exact c n) (srcM_exact c n)) (by
      obtain ⟨l, s⟩ := n
      cases l <;> exact wpE_waitDma2_eq 𝒱₀ (c : Thread nD τ) none Set.univ) Q
  exact h

/-- The rows `n` writes on its target, with the two duties `n`'s issue pays. -/
def Pd (c : Dev nD) (n : Tr) : sProp 𝕄 :=
  iprop(dutyTok ER (sndC c n) 0 0 ∗ dutyTok ER (rcvC (tgt c n) n) 0 0 ∗ Dst c n)

/-- Issuing transfer `n`, given what it reads: the credit to drain it. -/
theorem wp_send_of (c : Dev nD) (n : Tr) (src : Memref sig .tc .vmem S256x1024 .bf16) (hsx : src.view.WordExact)
    (q : PosShare TreeShare) (fs : Buf (Elt F) (src.view.loc (c : Thread nD τ)))
    (hpay : (src.view.loc (c : Thread nD τ) ↦[src.view.set]{q} fs : sProp 𝕄) = sendPay m c n)
    (hread : src.view.read (Elt F) fs = (gD c n).view.read (Elt F) (Gv m (tgt c n))) (Q : PUnit → sProp 𝕄) :
    iprop(Ctx m K ∗ sendPay m c n ∗ Pd c n ∗ Owe c (Ow c (ord n)))
      ⊢ iprop(((Owe c (Ow c (ord n + 1)) ∗ cred (tallyAt (sndC c n) () N)) -∗ Q ⟨⟩) -∗ wpc c (Prog.lift (.enqueueDma src
          (.remote (Dev.tc (tgt c n)) (gD c n) (.dma (sndS n))) (.dma (rcvS n)) hsx (gD_exact c n) ⟨⟨rfl, Or.inl rfl⟩, trivial⟩)) Q) := by
  unfold Pd Dst Owe
  rw [← hpay]
  simp only [Prog.lift]
  iintro ⟨#HC, Hs, ⟨Ht1, Ht2, ⟨%fd, Hd⟩⟩, ⟨%W, HO⟩⟩ Hk
  have h₁ : (src.view.loc (c : Thread nD τ) ↦[src.view.set]{q} fs) ⊢ (Rd m).payload (sndC c n) 0 0 := by
    rw [hpay]; exact Entails.of_eq (payload_at m c (.inr (.inl n)) 0 0).symm
  have h₂ : ((gD c n).view.loc (tgt c n : Thread nD τ) ↦[(gD c n).view.set]{fullShare} ((gD c n).view.write (Elt F) fd (src.view.read (Elt F) fs) Finset.univ))
      ⊢ (Rd m).payload (rcvC (tgt c n) n) 0 0 := by
    rw [hread, pointsTo_congr (g := Gv m (tgt c n)) fun i hi => write_read_on (gD c n).view fd (Gv m (tgt c n)) hi, gD_set]
    exact Entails.of_eq (payload_at m (tgt c n) (.inr (.inr n)) 0 0).symm
  have hW := Rounds.wp_send_pointsTo (src := src) (dst := gD c n) (c' := (tgt c n : Thread nD τ)) (q := q) (fs := fs) (k := fun u => Prog.ret u) (Q := Q)
    (hsc := rfl) (hsrc := hsx) (hdst := gD_exact c n) (sS := .dma (sndS n)) (sem := .dma (rcvS n)) (hsem := ⟨⟨rfl, Or.inl rfl⟩, trivial⟩)
    (defs := defs₀ (F := F)) (Γ := []) 𝒱₀ ER (Rd m) (c : Thread nD τ) none (κ₁ := K (c, .inr (.inl n))) (κ₂ := K (tgt c n, .inr (.inr n)))
    (r₁ := 0) (r₂ := 0) (d₁ := 0) (d₂ := 0) (fd := fd)
    ((Finset.ext_iff.mp (duties_at m c (.inr (.inl n))) 0).mpr (Finset.mem_singleton_self _))
    ((Finset.ext_iff.mp (duties_at m (tgt c n) (.inr (.inr n))) 0).mpr (Finset.mem_singleton_self _))
    () () N rfl (amount_at m c (.inr (.inl n)) 0 0) (amount_at m (tgt c n) (.inr (.inr n)) 0 0) (Ow c (ord n + 1)) (Ow_succ c n) (W := W)
    h₁ h₂ (Es := Set.univ)
  iapply hW $$ [Hs Ht1 Ht2 Hd HO]
  · isplitr; · iapply (Ctx_inv m K (c, .inr (.inl n))); iexact HC
    isplitr; · iapply (Ctx_inv m K (tgt c n, .inr (.inr n))); iexact HC
    isplitl [Hs]; · iexact Hs
    isplitl [Hd]; · rw [gD_set]; iexact Hd
    isplitl [HO]; · iexact HO
    isplitl [Ht1]; · iexact Ht1
    isplitr; · iapply (Ctx_reached m K (c, .inr (.inl n))); iexact HC
    isplitl [Ht2]; · iexact Ht2
    iapply (Ctx_reached m K (tgt c n, .inr (.inr n))); iexact HC
  iintro ⟨Hcr, HO⟩
  rw [wp_ret]
  imodintro
  iapply Hk
  isplitl [HO]; · iexists _; iexact HO
  iexact Hcr

/-- The share of the rows at home that a forwarded transfer reads. -/
def shr : Leg → PosShare TreeShare | .z => fullShare | .x => fullShare.right.left | .y => fullShare.right.right | .d => fullShare.right

theorem sendPay_fwd (c : Dev nD) (n : Tr) (h : n.1 ≠ .z) : sendPay m c n = gPts m c (par n) (shr n.1) := by
  obtain ⟨l, s⟩ := n
  cases l
  · exact absurd rfl h
  all_goals rfl

theorem wp_send (c : Dev nD) (n : Tr) (Q : PUnit → sProp 𝕄) :
    iprop(Ctx m K ∗ sendPay m c n ∗ Pd c n ∗ Owe c (Ow c (ord n)))
      ⊢ iprop(((Owe c (Ow c (ord n + 1)) ∗ cred (tallyAt (sndC c n) () N)) -∗ Q ⟨⟩) -∗ wpc c (stSend c n) Q) := by
  have hf (h : n.1 ≠ .z) := wp_send_of m K c n (gD c n) (gD_exact c n) (shr n.1) (Gv m c)
    (by rw [sendPay_fwd m c n h, gD_set_par c n h]; rfl) (by rw [Gv_tgt m c n h]) Q
  obtain ⟨l, s⟩ := n
  cases l
  · exact wp_send_of m K c (.z, s) (bS s) (bS_exact s) fullShare (Bv m c) rfl (read_z m c s) Q
  all_goals exact hf (fun h => nomatch h)

theorem bigSep_eight (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P

/-- One step per chunk: a rule of each step gives one of all eight. -/
theorem wp_eight (c : Dev nD) (p : Fin 8 → Pg F) (R : sProp 𝕄) [BI.Persistent R] (I : ℕ → sProp 𝕄) (P P' : Fin 8 → sProp 𝕄)
    (h : ∀ (s : Fin 8) (Q : PUnit → sProp 𝕄), iprop(R ∗ I s.val ∗ P s) ⊢ iprop(((I (s.val + 1) ∗ P' s) -∗ Q ⟨⟩) -∗ wpc c (p s) Q))
    (Q : PUnit → sProp 𝕄) :
    iprop(R ∗ I 0 ∗ bigSep Finset.univ P) ⊢ iprop(((I 8 ∗ bigSep Finset.univ P') -∗ Q ⟨⟩) -∗ wpc c (eight p) Q) := by
  rw [bigSep_eight P, bigSep_eight P']
  have ht (s : Fin 8) (t t' : ℕ) (e : s.val = t) (e' : s.val + 1 = t') (Q : PUnit → sProp 𝕄) :
      iprop(R ∗ I t ∗ P s) ⊢ iprop(((I t' ∗ P' s) -∗ Q ⟨⟩) -∗ wpc c (p s) Q) := by subst e e'; exact h s Q
  unfold eight
  simp only [wp_bind]
  iintro ⟨#HR, HI, H0, H1, H2, H3, H4, H5, H6, H7⟩ Hk
  iapply (ht 0 0 1 rfl rfl _) $$ [HI H0]
  · isplitr; · iexact HR
    isplitl [HI] <;> iassumption
  iintro ⟨HI, H0⟩
  iapply (ht 1 1 2 rfl rfl _) $$ [HI H1]
  · isplitr; · iexact HR
    isplitl [HI] <;> iassumption
  iintro ⟨HI, H1⟩
  iapply (ht 2 2 3 rfl rfl _) $$ [HI H2]
  · isplitr; · iexact HR
    isplitl [HI] <;> iassumption
  iintro ⟨HI, H2⟩
  iapply (ht 3 3 4 rfl rfl _) $$ [HI H3]
  · isplitr; · iexact HR
    isplitl [HI] <;> iassumption
  iintro ⟨HI, H3⟩
  iapply (ht 4 4 5 rfl rfl _) $$ [HI H4]
  · isplitr; · iexact HR
    isplitl [HI] <;> iassumption
  iintro ⟨HI, H4⟩
  iapply (ht 5 5 6 rfl rfl _) $$ [HI H5]
  · isplitr; · iexact HR
    isplitl [HI] <;> iassumption
  iintro ⟨HI, H5⟩
  iapply (ht 6 6 7 rfl rfl _) $$ [HI H6]
  · isplitr; · iexact HR
    isplitl [HI] <;> iassumption
  iintro ⟨HI, H6⟩
  iapply (ht 7 7 8 rfl rfl _) $$ [HI H7]
  · isplitr; · iexact HR
    isplitl [HI] <;> iassumption
  iintro ⟨HI, H7⟩
  iapply Hk
  isplitl [HI]; · iexact HI
  iframe H0 H1 H2 H3 H4 H5 H6 H7

end Cert.KProof

end
-- ==== Proof.Own.lean ====
/-
# The handshake and the sending of a device's own rows

The handshake hands each partner the rows it will write and brings the rows this device will write. Then chunk by chunk the
argument's rows are staged, rounded and sent across the last axis.
-/
module

public import proofs.«01_k».proof.Proof.Steps

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The handshake -/

/-- The rows that arrive at device `c` by `n` are, seen from the device that sends them, the rows it writes. -/
theorem Dst_back (c : Dev nD) (n : Tr) (f : (cc0_scratch0 : Ref sig .tc).ty.Contents (Elt F)) :
    (gM.view.loc (c : Thread nD τ) ↦[ch c n]{fullShare} f : sProp 𝕄) ⊢ Dst (tgt c n) n := by
  have h (c' : Dev nD) (e : c' = c) : (gM.view.loc (c : Thread nD τ) ↦[ch c n]{fullShare} f : sProp 𝕄)
      ⊢ iprop(∃ f : Buf (Elt F) (gM.view.loc (c' : Thread nD τ)), gM.view.loc (c' : Thread nD τ) ↦[ch c' n]{fullShare} f) := by
    subst e
    iintro H
    iexists f
    iexact H
  exact h _ (tgt_tgt c n)

/-- Elements in parts. -/
theorem pts_parts {T : Type} [Fintype T] {ℓ : Loc nD τ sig} {q : PosShare TreeShare} {f : Buf (Elt F) ℓ} (S : Finset (Idx ℓ)) (P : T → Finset (Idx ℓ))
    (hd : ∀ t t', t ≠ t' → Disjoint (P t) (P t')) (hc : ∀ i, i ∈ S ↔ ∃ t, i ∈ P t) :
    (ℓ ↦[S]{q} f : sProp 𝕄) = bigSep Finset.univ fun t => ℓ ↦[P t]{q} f := by
  rw [← pointsTo_biUnion Finset.univ P fun t _ t' _ h => hd t t' h]
  congr 1
  ext i
  rw [hc i, Finset.mem_biUnion]
  exact ⟨fun ⟨t, h⟩ => ⟨t, Finset.mem_univ _, h⟩, fun ⟨t, _, h⟩ => ⟨t, h⟩⟩

/-- A whole buffer in parts. -/
theorem pts_all {T : Type} [Fintype T] {ℓ : Loc nD τ sig} {q : PosShare TreeShare} {f : Buf (Elt F) ℓ} (P : T → Finset (Idx ℓ))
    (hd : ∀ t t', t ≠ t' → Disjoint (P t) (P t')) (hc : ∀ i, ∃ t, i ∈ P t) :
    (ℓ ↦{q} f : sProp 𝕄) = bigSep Finset.univ fun t => ℓ ↦[P t]{q} f :=
  pts_parts _ P hd fun i => iff_of_true (Finset.mem_univ i) (hc i)

/-- The gathered buffer is the rows of all the arrivals. -/
theorem g_chunks (c : Dev nD) (q : PosShare TreeShare) (f : (cc0_scratch0 : Ref sig .tc).ty.Contents (Elt F)) :
    (gM.view.loc (c : Thread nD τ) ↦{q} f : sProp 𝕄) = bigSep Finset.univ fun n : Tr => gM.view.loc (c : Thread nD τ) ↦[ch c n]{q} f :=
  pts_all (ℓ := gM.view.loc (c : Thread nD τ)) (ch c) (fun _ _ h => ch_disjoint c h) (ch_cover c)

theorem tg_image : (Finset.univ : Finset Tr).image tg = Finset.univ := by decide

/-- Split by the axis they cross. -/
theorem by_axis (Φ : Tr → sProp 𝕄) : bigSep Finset.univ Φ = bigSep Finset.univ fun a : Fin 3 => bigSep (Finset.univ.filter fun n : Tr => tg n = a) Φ := by
  rw [bigSep_fiberwise Finset.univ tg Φ, tg_image]

/-- The gathered buffer is what device `c` hands its three partners. -/
theorem g_split (c : Dev nD) (f : (cc0_scratch0 : Ref sig .tc).ty.Contents (Elt F)) :
    (gM.view.loc (c : Thread nD τ) ↦{fullShare} f : sProp 𝕄) ⊢ bigSep Finset.univ fun a : Fin 3 => barPay (F := F) (nb c a) a := by
  rw [g_chunks]
  refine (bigSep_mono fun n _ => Dst_back c n f).trans ?_
  rw [by_axis]
  refine bigSep_mono fun a _ => ?_
  unfold barPay
  refine bigSep_mono fun n hn => ?_
  have e : tg n = a := (Finset.mem_filter.mp hn).2
  subst e
  exact BI.Entails.refl _

theorem bigSep_three (Φ : Fin 3 → sProp 𝕄) : bigSep Finset.univ Φ = iprop(Φ 0 ∗ Φ 1 ∗ Φ 2) :=
  bigSep_univ_eq_bigSepL [0, 1, 2] (by decide) (by decide) Φ

/-- What the handshake takes: the duties it pays, the gathered buffer, its own cell with its credit. -/
def BarS (c : Dev nD) : sProp 𝕄 :=
  iprop((bigSep Finset.univ fun a : Fin 3 => dutyTok ER (barC (nb c a)) 0 a) ∗ (∃ f, gM.view.loc (c : Thread nD τ) ↦{fullShare} f)
    ∗ atPos ER (barC c) 0 ∅ 0 ∗ cred (tallyAt (barC c) () 3))

/-- A signal to the partner across axis `a`. -/
theorem wp_sig (c : Dev nD) (a : Fin 3) (O O' : CellTallies nD τ sig Unit) (hO : O = O' + tallyAt (barC (nb c a)) () 1) (W : Waits sig Unit)
    (k : PUnit → Pg F) (Q : PUnit → sProp 𝕄) :
    iprop(Ctx m K ∗ owes (c : Thread nD τ) O W ∗ dutyTok ER (barC (nb c a)) 0 a ∗ barPay (F := F) (nb c a) a)
      ⊢ iprop((owes (c : Thread nD τ) O' W -∗ wpc c (k ⟨⟩) Q) -∗ wpc c (.op (.semSignal (nb c a : Thread nD τ) barS 1) k) Q) := by
  iintro ⟨#HC, HO, Ht, Hp⟩ Hk
  have hW := Rounds.wp_signal (Q := Q) (k := k) (Es := Set.univ) (defs := defs₀ (F := F)) (Γ := []) 𝒱₀ ER (Rd m) (c : Thread nD τ) none (dst := (nb c a : Thread nD τ))
    (sem := barS) (κ := K (nb c a, .inl ())) (r := 0) (d := a) (k' := 1)
    ((Finset.ext_iff.mp (duties_at m (nb c a) (.inl ())) a).mpr (Finset.mem_univ a)) (amount_at m (nb c a) (.inl ()) 0 a) () O' hO (W := W)
  iapply hW $$ [HO Ht Hp]
  · isplitr; · iapply (Ctx_inv m K (nb c a, .inl ())); iexact HC
    isplitl [HO]; · iexact HO
    isplitl [Ht]; · iexact Ht
    isplitl [Hp]; · iapply (show barPay (F := F) (nb c a) a ⊢ (Rd m).payload ((nb c a : Thread nD τ), .reg barS) 0 a from Entails.of_eq (payload_at m (nb c a) (.inl ()) 0 a).symm); iexact Hp
    iapply (Ctx_reached m K (nb c a, .inl ())); iexact HC
  iexact Hk

/-- The handshake: the rows device `c` will write, and its cell closed. -/
theorem wp_bar (c : Dev nD) (Q : PUnit → sProp 𝕄) :
    iprop(Ctx m K ∗ BarS c ∗ Owe c (O₀ c))
      ⊢ iprop(((Owe c (Ow c 0) ∗ semVal (barC c) 0 ∗ bigSep Finset.univ fun n : Tr => Dst c n) -∗ Q ⟨⟩) -∗ wpc c (stBar c) Q) := by
  unfold BarS Owe stBar
  simp only [semSignalWord, semWaitWord, Prog.lift, Prog.bind_op, Prog.bind_ret, Prog.pure_eq_ret]
  rw [bigSep_three]
  iintro ⟨#HC, ⟨⟨Ht0, Ht1, Ht2⟩, ⟨%f, Hg⟩, Hat, Hcr⟩, ⟨%W, HO⟩⟩ Hk
  ihave Hp := (g_split c f) $$ Hg
  ihave Hp' := (Entails.of_eq (bigSep_three (fun a => barPay (F := F) (nb c a) a))) $$ Hp
  icases Hp' with ⟨Hp0, Hp1, Hp2⟩
  iapply (wp_sig m K c 0 (O₀ c) (O₁ c) rfl W) $$ [HO Ht0 Hp0]
  · isplitr; · iexact HC
    iframe HO Ht0 Hp0
  iintro HO
  iapply (wp_sig m K c 1 (O₁ c) (O₂ c) rfl W) $$ [HO Ht1 Hp1]
  · isplitr; · iexact HC
    iframe HO Ht1 Hp1
  iintro HO
  iapply (wp_sig m K c 2 (O₂ c) (O₃ c) rfl W) $$ [HO Ht2 Hp2]
  · isplitr; · iexact HC
    iframe HO Ht2 Hp2
  iintro HO
  iapply (Rounds.wp_wait_rest_token 𝒱₀ ER (Rd m) (c : Thread nD τ) none (κ := K (c, .inl ()))
      (wpE_semWait_eq 𝒱₀ (c : Thread nD τ) none Set.univ) (Set.mem_univ _) () (O := Ow c 0) (W := W) (R := 0) (m := 0) (T := ∅)
      (expect_bar m c).symm) $$ [Hcr HO Hat]
  · isplitr; · iapply (Ctx_inv m K (c, .inl ())); iexact HC
    isplitl [Hcr]; · iexact Hcr
    isplitl [HO]; · iexact HO
    isplitr
    · iapply (mayWait_Ow c (csem (.inl ())) 0 (by rw [kOf_csem]; rintro ⟨l, s⟩ -; cases l <;> simp only [lvOf, lvR] <;> omega))
      iapply (Ctx_lev m K); iexact HC
    iexact Hat
  iintro ⟨HO, Hat, -, Hpay⟩
  imod (Rounds.cell_close ER (Rd m) (Set.mem_univ (K (c, .inl ()))) (fun h => h) (R := 0 + 1) (duties_later m (barC c))) $$ [Hat] with Hz
  · isplitr; · iapply (Ctx_inv m K (c, .inl ())); iexact HC
    iexact Hat
  rw [wp_ret]
  imodintro
  iapply Hk
  isplitl [HO]; · iexists _; iexact HO
  isplitl [Hz]; · iexact Hz
  iapply (Entails.of_eq (by_axis (fun n => Dst (F := F) c n)).symm)
  iapply (show bigSep ((Rd m).duties ((c : Thread nD τ), .reg barS) 0 \ ∅) (fun a => (Rd m).payload ((c : Thread nD τ), .reg barS) 0 a)
    ⊢ bigSep Finset.univ fun a : Fin 3 => barPay (F := F) c a from Entails.of_eq (rest_bar m c)) $$ Hpay

/-! ## The own rows -/

/-- What every chunk's staging uses and gives back: the argument at a share, the staging buffer, its semaphore at zero. -/
def StA (c : Dev nD) (q : PosShare TreeShare) : sProp 𝕄 :=
  iprop((xM.view.loc (c : Thread nD τ) ↦{q} (xV m c)) ∗ (∃ f, aM.view.loc (c : Thread nD τ) ↦{fullShare} f) ∗ semVal ((c : Thread nD τ), .dma semA) 0)

/-- Slot `s` of the rows to send, whatever it holds. -/
def bAny (c : Dev nD) (s : Fin 8) : sProp 𝕄 := iprop(∃ f, (bS s).view.loc (c : Thread nD τ) ↦[(bS s).view.set]{fullShare} f)

abbrev EC : UEmb Counters 𝕄 := countersEmb (U := UU)

theorem semA_lv : lvOf (kOf (.dma semA)) = 0 := by rw [kOf_small semA (by decide)]; rfl
theorem semB_lv (p : Fin 2) : lvOf (kOf (.dma (semB p))) = 0 := by rw [kOf_small (semB p) (by revert p; decide)]; rfl

theorem lvR_pos (n : Tr) : 0 < lvR n := by obtain ⟨l, s⟩ := n; cases l <;> simp only [lvR] <;> omega

/-- A wait on a semaphore of level 0. -/
theorem mayWait_zero (c : Dev nD) (sm : SemLoc sig) (t : ℕ) (h : lvOf (kOf sm) = 0) :
    Ctx m K ⊢ MayWait (c : Thread nD τ) sm () (Ow c t) := by
  refine (Ctx_lev m K).trans (mayWait_Ow c sm t fun n _ => ?_)
  rw [h]
  exact lvR_pos n

theorem b_load (s : Fin 8) : bM.view.setOn (bR s).toLoadRect.set ⊆ (bS s).view.set := by rw [View.set_reshape, View.set_slice]; exact subset_rfl
theorem b_store (s : Fin 8) : (bM.access (bR s)).setOn Finset.univ ⊆ (bS s).view.set := by rw [View.set_reshape]; exact subset_rfl

/-- Rounding a staged chunk and sending it. -/
theorem wp_stA_tail (c : Dev nD) (s : Fin 8) (fa : (cc0_scratch1 : Ref sig .tc).ty.Contents (Elt F)) (Q : PUnit → sProp 𝕄) (A : (cc0_scratch1 : Ref sig .tc).ty.Contents (Elt F))
    (hA : A = (aS (slA s)).view.write (Elt F) fa ((xA c s).view.read (Elt F) (xV m c)) Finset.univ) :
    iprop(Ctx m K ∗ (aM.view.loc (c : Thread nD τ) ↦{fullShare} A) ∗ bAny c s ∗ Pd c (.z, s) ∗ Owe c (Ow c s.val))
      ⊢ iprop((((aM.view.loc (c : Thread nD τ) ↦{fullShare} A) ∗ Owe c (Ow c (s.val + 1)) ∗ cred (tallyAt (sndC c (.z, s)) () N)) -∗ Q ⟨⟩) -∗ wpc c (do
        let v : Vec F S1x256x1024 .f32 ← Prog.lift (.load aM (aR (slA s)).toLoadRect (View.loadsAt_vmem h_S1x256x1024))
        let _w : Vec F S1x256x1024 .bf16 ← Prog.lift (.load bM (bR s).toLoadRect (View.loadsAt_vmem h_S1x256x1024))
        Prog.lift (.store bM (bR s) (payA v) Finset.univ (View.stores_vmem h_S1x256x1024 ((Memref.isWhole_whole cc0_scratch2).storeExact_slice rfl _ (bR_packed s)) (fun _ => rfl)) (.inl rfl))
        stSend c (.z, s)) Q) := by
  unfold bAny
  simp only [Prog.lift, Prog.bind_op, Prog.bind_ret]
  iintro ⟨#HC, Ha, ⟨%fb, Hb⟩, HPd, HO⟩ Hk
  iapply (wp_load 𝒱₀ (c : Thread nD τ) none Set.univ (m := aM) (S := Finset.univ) (q := fullShare) (f := A) (Finset.subset_univ _)) $$ Ha; iintro Ha
  iapply (wp_load 𝒱₀ (c : Thread nD τ) none Set.univ (m := bM) (S := (bS s).view.set) (q := fullShare) (f := fb) (b_load s)) $$ Hb; iintro Hb
  iapply (wp_store 𝒱₀ (c : Thread nD τ) none Set.univ (m := bM) (r := bR s) (Mk := Finset.univ) (S := (bS s).view.set) (f := fb) (b_store s)) $$ Hb; iintro Hb
  have hb : ((bS s).view.loc (c : Thread nD τ) ↦[(bS s).view.set]{fullShare}
      (bM.access (bR s)).write (Elt F) fb (payA (aM.view.readAt (Elt F) (aR (slA s)).toLoadRect A)) Finset.univ : sProp 𝕄) ⊢ sendPay m c (.z, s) := by
    subst hA
    exact Entails.of_eq (pointsTo_congr fun i hi => store_b m c (slA s) s fa fb hi)
  ihave Hp := hb $$ Hb
  iapply (wp_send m K c (.z, s) Q) $$ [Hp HPd HO]
  · isplitr; · iexact HC
    isplitl [Hp]; · iexact Hp
    isplitl [HPd]; · iexact HPd
    iexact HO
  iintro ⟨HO, Hcr⟩
  iapply Hk
  isplitl [Ha]; · iexact Ha
  isplitl [HO]; · iexact HO
  iexact Hcr

/-- Staging, rounding and sending chunk `s`. -/
theorem wp_stA (c : Dev nD) (q : PosShare TreeShare) (s : Fin 8) (Q : PUnit → sProp 𝕄) :
    iprop(Ctx m K ∗ iprop(StA m c q ∗ Owe c (Ow c s.val)) ∗ iprop(bAny c s ∗ Pd c (.z, s)))
      ⊢ iprop((iprop(iprop(StA m c q ∗ Owe c (Ow c (s.val + 1))) ∗ cred (tallyAt (sndC c (.z, s)) () N)) -∗ Q ⟨⟩) -∗ wpc c (stA c s) Q) := by
  unfold StA stA
  rw [Prog.lift, Prog.bind_op, Prog.lift]
  simp only [Prog.bind_ret, Prog.bind_op]
  iintro ⟨#HC, ⟨⟨Hx, ⟨%fa, Ha⟩, Hz⟩, HO⟩, ⟨Hb, HPd⟩⟩ Hk
  iapply (Transfers.wp_dmaFromWhole countersEmb 𝒱₀ (c : Thread nD τ) none () _ rfl (View.dmaCredit_pos _ (by decide)) (Finset.subset_univ _)) $$ [Hx Ha Hz]
  · iframe Hx Ha Hz
  iintro HF
  unfold Owe
  icases HO with ⟨%W, HO⟩
  iapply (Transfers.wp_waitLocalO countersEmb 𝒱₀ (c : Thread nD τ) none () rfl) $$ [HF HO]
  · isplitl [HF]; · iexact HF
    isplitl [HO]; · iexact HO
    iapply (mayWait_zero m K c (.dma semA) s.val semA_lv); iexact HC
  iintro ⟨⟨Ha, Hx⟩, Hz, HO⟩
  iapply (wp_stA_tail m K c s fa Q _ rfl) $$ [Ha Hb HPd HO]
  · isplitr; · iexact HC
    isplitl [Ha]; · iexact Ha
    isplitl [Hb]; · iexact Hb
    isplitl [HPd]; · iexact HPd
    unfold Owe; iexists _; iexact HO
  iintro ⟨Ha, HO, Hcr⟩
  iapply Hk
  unfold Owe
  isplitr [Hcr]
  · isplitr [HO]
    · isplitl [Hx]; · iexact Hx
      isplitl [Ha]; · iexists _; iexact Ha
      iexact Hz
    iexact HO
  iexact Hcr

end Cert.KProof

end
-- ==== Proof.Forward.lean ====
/-
# Forwarding and draining

A chunk that arrives on leg `z` is passed on along `x` and `y`, and what arrives on one of those is passed on along `d`.
Each rule keeps the half of the arrived rows that no transfer reads; the drains bring the other half back.
-/
module

public import proofs.«01_k».proof.Proof.Own

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- Rows at a share are the rows at its halves. -/
theorem gPts_half (c : Dev nD) (n : Tr) (q : PosShare TreeShare) : gPts m c n q ⊣⊢ iprop(gPts m c n q.left ∗ gPts m c n q.right) :=
  pointsTo_share (PosShare.mem_left_op_right q)

/-- The leg other than the one whose rows chunk `s` passes on along `d`. -/
def oth (s : Fin 8) : Tr := if s.val < 4 then (.x, s) else (.y, s)

theorem oth_lo (s : Fin 8) (h : s.val < 4) : oth s = (.x, s) := if_pos h
theorem oth_hi (s : Fin 8) (h : ¬ s.val < 4) : oth s = (.y, s) := if_neg h
theorem par_lo (s : Fin 8) (h : s.val < 4) : par (.d, s) = (.y, s) := if_pos h
theorem par_hi (s : Fin 8) (h : ¬ s.val < 4) : par (.d, s) = (.x, s) := if_neg h

/-- What chunk `s`'s forwarding takes. -/
def FwdIn (c : Dev nD) (s : Fin 8) : sProp 𝕄 :=
  iprop((Wt c (.inr (.z, s)) ∗ Wt c (.inr (.x, s)) ∗ Wt c (.inr (.y, s))) ∗ (Pd c (.x, s) ∗ Pd c (.y, s) ∗ Pd c (.d, s)))

/-- The credits to drain chunk `s`'s forwarded transfers. -/
def FwdCr (c : Dev nD) (s : Fin 8) : sProp 𝕄 :=
  iprop(cred (tallyAt (sndC c (.x, s)) () N) ∗ cred (tallyAt (sndC c (.y, s)) () N) ∗ cred (tallyAt (sndC c (.d, s)) () N))

/-- The receive cells of chunk `s` closed at zero. -/
def RcvZ (c : Dev nD) (s : Fin 8) : sProp 𝕄 := iprop(semVal (rcvC c (.z, s)) 0 ∗ semVal (rcvC c (.x, s)) 0 ∗ semVal (rcvC c (.y, s)) 0)

/-- The halves of chunk `s`'s arrived rows that no transfer reads. -/
def HomeL (c : Dev nD) (s : Fin 8) : sProp 𝕄 :=
  iprop(gPts m c (.z, s) fullShare.left ∗ gPts m c (.x, s) fullShare.left ∗ gPts m c (.y, s) fullShare.left)

/-- What chunk `s`'s forwarding gives back. -/
def FwdOut (c : Dev nD) (s : Fin 8) : sProp 𝕄 := iprop(HomeL m c s ∗ gPts m c (oth s) fullShare.right ∗ RcvZ c s ∗ FwdCr c s)

/-- The arrival on leg `z` and its forwarding along `x` and `y`. -/
theorem wp_head (c : Dev nD) (s : Fin 8) (Q : PUnit → sProp 𝕄) :
    iprop(Ctx m K ∗ Owe c (Ow c (8 + 3 * s.val)) ∗ Wt c (.inr (.z, s)) ∗ Pd c (.x, s) ∗ Pd c (.y, s))
      ⊢ iprop(((Owe c (Ow c (10 + 3 * s.val)) ∗ gPts m c (.z, s) fullShare.left ∗ semVal (rcvC c (.z, s)) 0
          ∗ cred (tallyAt (sndC c (.x, s)) () N) ∗ cred (tallyAt (sndC c (.y, s)) () N)) -∗ Q ⟨⟩)
        -∗ wpc c (stRecv c (.z, s)) fun _ => wpc c (stSend c (.x, s)) fun _ => wpc c (stSend c (.y, s)) Q) := by
  iintro ⟨#HC, HO, HW, Hx, Hy⟩ Hk
  iapply (wp_recv m K c (.z, s) (8 + 3 * s.val) (by rintro ⟨l', s'⟩ h; cases l' <;> simp only [ord, lvR] at h ⊢ <;> omega) _) $$ [HW HO]
  · isplitr; · iexact HC
    isplitl [HW] <;> iassumption
  iintro ⟨HO, Hz, Hg⟩
  ihave Hg' := (gPts_half m c (.z, s) fullShare).1 $$ Hg
  icases Hg' with ⟨Hl, Hr⟩
  ihave Hr' := (gPts_half m c (.z, s) fullShare.right).1 $$ Hr
  icases Hr' with ⟨Hrl, Hrr⟩
  iapply (wp_send m K c (.x, s) _) $$ [Hrl Hx HO]
  · isplitr; · iexact HC
    isplitl [Hrl]; · iapply (Entails.of_eq (show gPts m c (.z, s) fullShare.right.left = sendPay m c (.x, s) from rfl)); iexact Hrl
    isplitl [Hx]; · iexact Hx
    iexact HO
  iintro ⟨HO, Hcx⟩
  iapply (wp_send m K c (.y, s) _) $$ [Hrr Hy HO]
  · isplitr; · iexact HC
    isplitl [Hrr]; · iapply (Entails.of_eq (show gPts m c (.z, s) fullShare.right.right = sendPay m c (.y, s) from rfl)); iexact Hrr
    isplitl [Hy]; · iexact Hy
    iapply (Entails.of_eq (show Owe (F := F) c (Ow c (ord (.x, s) + 1)) = Owe c (Ow c (ord (.y, s))) by simp only [ord]; congr 2; omega)); iexact HO
  iintro ⟨HO, Hcy⟩
  iapply Hk
  isplitl [HO]; · iapply (Entails.of_eq (show Owe (F := F) c (Ow c (ord (.y, s) + 1)) = Owe c (Ow c (10 + 3 * s.val)) by simp only [ord]; congr 2; omega)); iexact HO
  iframe Hl Hz Hcx Hcy

/-- An arrival on leg `x` or `y`, its rows in two halves. -/
theorem wp_arrive (c : Dev nD) (n : Tr) (t : ℕ) (ht : ∀ n', t ≤ ord n' → lvR n < lvR n') (Q : PUnit → sProp 𝕄) :
    iprop(Ctx m K ∗ Owe c (Ow c t) ∗ Wt c (.inr n))
      ⊢ iprop(((Owe c (Ow c t) ∗ semVal (rcvC c n) 0 ∗ gPts m c n fullShare.left ∗ gPts m c n fullShare.right) -∗ Q ⟨⟩) -∗ wpc c (stRecv c n) Q) := by
  iintro ⟨#HC, HO, HW⟩ Hk
  iapply (wp_recv m K c n t ht _) $$ [HW HO]
  · isplitr; · iexact HC
    isplitl [HW] <;> iassumption
  iintro ⟨HO, Hz, Hg⟩
  ihave Hg' := (gPts_half m c n fullShare).1 $$ Hg
  iapply Hk
  iframe HO Hz Hg'

/-- The forwarding along `d`. -/
theorem wp_pass (c : Dev nD) (s : Fin 8) (n : Tr) (hn : par (.d, s) = n) (Q : PUnit → sProp 𝕄) :
    iprop(Ctx m K ∗ Owe c (Ow c (10 + 3 * s.val)) ∗ gPts m c n fullShare.right ∗ Pd c (.d, s))
      ⊢ iprop(((Owe c (Ow c (8 + 3 * (s.val + 1))) ∗ cred (tallyAt (sndC c (.d, s)) () N)) -∗ Q ⟨⟩) -∗ wpc c (stSend c (.d, s)) Q) := by
  subst hn
  iintro ⟨#HC, HO, Hg, Hd⟩ Hk
  iapply (wp_send m K c (.d, s) _) $$ [Hg Hd HO]
  · isplitr; · iexact HC
    isplitl [Hg]; · iapply (Entails.of_eq (show gPts m c (par (.d, s)) fullShare.right = sendPay m c (.d, s) from rfl)); iexact Hg
    isplitl [Hd]; · iexact Hd
    iexact HO
  iintro ⟨HO, Hc⟩
  iapply Hk
  isplitl [HO]; · iapply (Entails.of_eq (show Owe (F := F) c (Ow c (ord (.d, s) + 1)) = Owe c (Ow c (8 + 3 * (s.val + 1))) by simp only [ord]; congr 2; omega)); iexact HO
  iexact Hc

/-- Forwarding chunk `s`. -/
theorem wp_stB (c : Dev nD) (s : Fin 8) (Q : PUnit → sProp 𝕄) :
    iprop(Ctx m K ∗ Owe c (Ow c (8 + 3 * s.val)) ∗ FwdIn c s)
      ⊢ iprop(((Owe c (Ow c (8 + 3 * (s.val + 1))) ∗ FwdOut m c s) -∗ Q ⟨⟩) -∗ wpc c (stB c s) Q) := by
  unfold FwdIn FwdOut HomeL RcvZ FwdCr stB
  by_cases h : s.val < 4
  · rw [if_pos h, oth_lo s h]
    unfold stBlo
    simp only [wp_bind]
    iintro ⟨#HC, HO, ⟨HWz, HWx, HWy⟩, ⟨Hx, Hy, Hd⟩⟩ Hk
    iapply (wp_head m K c s _) $$ [HO HWz Hx Hy]
    · isplitr; · iexact HC
      iframe HO HWz Hx Hy
    iintro ⟨HO, Hgz, Hsz, Hcx, Hcy⟩
    iapply (wp_arrive m K c (.x, s) (10 + 3 * s.val) (by rintro ⟨l', s'⟩ h; cases l' <;> simp only [ord, lvR] at h ⊢ <;> omega) _) $$ [HO HWx]
    · isplitr; · iexact HC
      iframe HO HWx
    iintro ⟨HO, Hsx, Hxl, Hxr⟩
    iapply (wp_arrive m K c (.y, s) (10 + 3 * s.val) (by rintro ⟨l', s'⟩ h; cases l' <;> simp only [ord, lvR] at h ⊢ <;> omega) _) $$ [HO HWy]
    · isplitr; · iexact HC
      iframe HO HWy
    iintro ⟨HO, Hsy, Hyl, Hyr⟩
    iapply (wp_pass m K c s (.y, s) (par_lo s h) _) $$ [HO Hyr Hd]
    · isplitr; · iexact HC
      iframe HO Hyr Hd
    iintro ⟨HO, Hcd⟩
    iapply Hk
    iframe HO Hgz Hxl Hyl Hxr Hsz Hsx Hsy Hcx Hcy Hcd
  · rw [if_neg h, oth_hi s h]
    unfold stBhi
    simp only [wp_bind]
    iintro ⟨#HC, HO, ⟨HWz, HWx, HWy⟩, ⟨Hx, Hy, Hd⟩⟩ Hk
    iapply (wp_head m K c s _) $$ [HO HWz Hx Hy]
    · isplitr; · iexact HC
      iframe HO HWz Hx Hy
    iintro ⟨HO, Hgz, Hsz, Hcx, Hcy⟩
    iapply (wp_arrive m K c (.x, s) (10 + 3 * s.val) (by rintro ⟨l', s'⟩ h; cases l' <;> simp only [ord, lvR] at h ⊢ <;> omega) _) $$ [HO HWx]
    · isplitr; · iexact HC
      iframe HO HWx
    iintro ⟨HO, Hsx, Hxl, Hxr⟩
    iapply (wp_pass m K c s (.x, s) (par_hi s h) _) $$ [HO Hxr Hd]
    · isplitr; · iexact HC
      iframe HO Hxr Hd
    iintro ⟨HO, Hcd⟩
    iapply (wp_arrive m K c (.y, s) (8 + 3 * (s.val + 1)) (by rintro ⟨l', s'⟩ h; cases l' <;> simp only [ord, lvR] at h ⊢ <;> omega) _) $$ [HO HWy]
    · isplitr; · iexact HC
      iframe HO HWy
    iintro ⟨HO, Hsy, Hyl, Hyr⟩
    iapply Hk
    iframe HO Hgz Hxl Hyl Hyr Hsz Hsx Hsy Hcx Hcy Hcd

/-! ## Draining -/

/-- The drain's round on a cell of leg `x`, `y` or `d`, and the credit its issue gave. -/
def SndAt (c : Dev nD) (n : Tr) : sProp 𝕄 := atPos ER (sndC c n) 0 ∅ 0

theorem wt_snd (c : Dev nD) (n : Tr) : iprop(SndAt (F := F) c n ∗ cred (tallyAt (sndC c n) () N)) ⊢ Wt c (.inl n) := Entails.refl _

/-- A drain once nothing is owed. -/
theorem wp_drain_end (c : Dev nD) (n : Tr) (Q : PUnit → sProp 𝕄) :
    iprop(Ctx m K ∗ Owe c (Ow c 32) ∗ SndAt c n ∗ cred (tallyAt (sndC c n) () N))
      ⊢ iprop(((Owe c (Ow c 32) ∗ semVal (sndC c n) 0 ∗ sendPay m c n) -∗ Q ⟨⟩) -∗ wpc c (stDrain c n) Q) := by
  iintro ⟨#HC, HO, HW⟩ Hk
  iapply (wp_drain m K c n 32 (fun n' h => by have := ord_lt n'; omega) _) $$ [HW HO]
  · isplitr; · iexact HC
    isplitl [HW]; · iapply (wt_snd c n); iexact HW
    iexact HO
  iexact Hk

/-- The cells of chunk `s`'s forwarded transfers. -/
def SndsAt (c : Dev nD) (s : Fin 8) : sProp 𝕄 := iprop(SndAt c (.x, s) ∗ SndAt c (.y, s) ∗ SndAt c (.d, s))
/-- The same closed at zero. -/
def SndZ (c : Dev nD) (s : Fin 8) : sProp 𝕄 := iprop(semVal (sndC c (.x, s)) 0 ∗ semVal (sndC c (.y, s)) 0 ∗ semVal (sndC c (.d, s)) 0)
/-- Chunk `s`'s arrived rows, whole. -/
def Home (c : Dev nD) (s : Fin 8) : sProp 𝕄 := iprop(gPts m c (.z, s) fullShare ∗ gPts m c (.x, s) fullShare ∗ gPts m c (.y, s) fullShare)

/-- The right halves of the arrivals on `x` and `y` make, with the left ones, the rows whole. -/
theorem home_join (c : Dev nD) (s : Fin 8) :
    iprop(HomeL m c s ∗ gPts m c (oth s) fullShare.right ∗ sendPay m c (.x, s) ∗ sendPay m c (.y, s) ∗ sendPay m c (.d, s)) ⊢ Home m c s := by
  have hz := (gPts_half m c (.z, s) fullShare.right).2
  have hd : iprop(gPts m c (oth s) fullShare.right ∗ gPts m c (par (.d, s)) fullShare.right)
      ⊢ iprop(gPts m c (.x, s) fullShare.right ∗ gPts m c (.y, s) fullShare.right) := by
    by_cases h : s.val < 4
    · rw [oth_lo s h, par_lo s h]
    · rw [oth_hi s h, par_hi s h]
      iintro ⟨H, H'⟩
      iframe H H'
  unfold HomeL Home
  rw [show sendPay m c (.x, s) = gPts m c (.z, s) fullShare.right.left from rfl, show sendPay m c (.y, s) = gPts m c (.z, s) fullShare.right.right from rfl,
    show sendPay m c (.d, s) = gPts m c (par (.d, s)) fullShare.right from rfl]
  iintro ⟨⟨Hz, Hx, Hy⟩, Ho, Hzx, Hzy, Hd⟩
  ihave Hxy := hd $$ [Ho Hd]
  · isplitl [Ho]; · iexact Ho
    iexact Hd
  icases Hxy with ⟨Hxr, Hyr⟩
  ihave Hzr := hz $$ [Hzx Hzy]
  · isplitl [Hzx]; · iexact Hzx
    iexact Hzy
  isplitl [Hz Hzr]
  · iapply (gPts_half m c (.z, s) fullShare).2; iframe Hz Hzr
  isplitl [Hx Hxr]
  · iapply (gPts_half m c (.x, s) fullShare).2; iframe Hx Hxr
  iapply (gPts_half m c (.y, s) fullShare).2; iframe Hy Hyr

/-- Draining chunk `s`'s forwarded transfers. -/
theorem wp_stDrainF (c : Dev nD) (s : Fin 8) (Q : PUnit → sProp 𝕄) :
    iprop(Ctx m K ∗ Owe c (Ow c 32) ∗ (SndsAt c s ∗ FwdCr c s ∗ HomeL m c s ∗ gPts m c (oth s) fullShare.right))
      ⊢ iprop(((Owe c (Ow c 32) ∗ (SndZ c s ∗ Home m c s)) -∗ Q ⟨⟩) -∗ wpc c (stDrainF c s) Q) := by
  unfold SndsAt FwdCr SndZ stDrainF
  simp only [wp_bind]
  iintro ⟨#HC, HO, ⟨Ax, Ay, Ad⟩, ⟨Cx, Cy, Cd⟩, HL, Ho⟩ Hk
  iapply (wp_drain_end m K c (.x, s) _) $$ [HO Ax Cx]
  · isplitr; · iexact HC
    iframe HO Ax Cx
  iintro ⟨HO, Hx, Px⟩
  iapply (wp_drain_end m K c (.y, s) _) $$ [HO Ay Cy]
  · isplitr; · iexact HC
    iframe HO Ay Cy
  iintro ⟨HO, Hy, Py⟩
  iapply (wp_drain_end m K c (.d, s) _) $$ [HO Ad Cd]
  · isplitr; · iexact HC
    iframe HO Ad Cd
  iintro ⟨HO, Hd, Pd⟩
  iapply Hk
  isplitl [HO]; · iexact HO
  isplitl [Hx Hy Hd]; · iframe Hx Hy Hd
  iapply (home_join m c s)
  iframe HL Ho Px Py Pd

/-- Draining chunk `s`'s own transfer: its slot, rounded. -/
theorem wp_stDrainZ (c : Dev nD) (s : Fin 8) (Q : PUnit → sProp 𝕄) :
    iprop(Ctx m K ∗ Owe c (Ow c 32) ∗ (SndAt c (.z, s) ∗ cred (tallyAt (sndC c (.z, s)) () N)))
      ⊢ iprop(((Owe c (Ow c 32) ∗ (semVal (sndC c (.z, s)) 0 ∗ bPts m c s)) -∗ Q ⟨⟩) -∗ wpc c (stDrain c (.z, s)) Q) :=
  wp_drain_end m K c (.z, s) Q

end Cert.KProof

end
-- ==== Proof.Add.lean ====
/-
# The additions

The four blocks of the argument are staged through two slots, rounded and added to the gathered rows. The argument is
held at two shares, one for each slot, because two copies read it at a time.
-/
module

public import proofs.«01_k».proof.Proof.Forward

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- The share of the argument that the copies into slot `p` read. -/
def xs : Fin 2 → PosShare TreeShare | 0 => fullShare.left | 1 => fullShare.right

/-- The argument at slot `p`'s share. -/
def xAt (c : Dev nD) (p : Fin 2) : sProp 𝕄 := xM.view.loc (c : Thread nD τ) ↦{xs p} (xV m c)

/-- Slot `p` holding block `k`. -/
def eHas (c : Dev nD) (k : Fin 4) : sProp 𝕄 :=
  iprop(∃ f : (cc0_scratch3 : Ref sig .tc).ty.Contents (Elt F), (eS (sl k)).view.loc (c : Thread nD τ) ↦[(eS (sl k)).view.set]{fullShare}
    ((eS (sl k)).view.write (Elt F) f ((xB c k).view.read (Elt F) (xV m c)) Finset.univ))

/-- Slot `p` free. -/
def EIdle (c : Dev nD) (p : Fin 2) : sProp 𝕄 :=
  iprop(xAt m c p ∗ (∃ f : (cc0_scratch3 : Ref sig .tc).ty.Contents (Elt F), (eS p).view.loc (c : Thread nD τ) ↦[(eS p).view.set]{fullShare} f) ∗ semVal ((c : Thread nD τ), .dma (semB p)) 0)

/-- Block `k` being copied into its slot. -/
def EFly (c : Dev nD) (k : Fin 4) : sProp 𝕄 :=
  iprop(∃ f : (cc0_scratch3 : Ref sig .tc).ty.Contents (Elt F), Transfers.Flight countersEmb (c : Thread nD τ) (.dma (semB (sl k))) () (eS (sl k)).view.dmaCredit
    iprop(((eS (sl k)).view.loc (c : Thread nD τ) ↦[(eS (sl k)).view.set]{fullShare} ((eS (sl k)).view.write (Elt F) f ((xB c k).view.read (Elt F) (xV m c)) Finset.univ))
      ∗ xAt m c (sl k)))

/-- Block `k` in its slot. -/
def ERdy (c : Dev nD) (k : Fin 4) : sProp 𝕄 := iprop(eHas m c k ∗ xAt m c (sl k) ∗ semVal ((c : Thread nD τ), .dma (semB (sl k))) 0)

theorem rdy_idle (c : Dev nD) (k : Fin 4) (p : Fin 2) (h : sl k = p) : ERdy m c k ⊢ EIdle m c p := by
  subst h
  unfold ERdy EIdle eHas
  iintro ⟨⟨%f, He⟩, Hx, Hz⟩
  isplitl [Hx]; · iexact Hx
  isplitl [He]; · iexists _; iexact He
  iexact Hz

/-- Starting the copy of block `k`. -/
theorem wp_stCopy (c : Dev nD) (k : Fin 4) (p : Fin 2) (hp : sl k = p) (Q : PUnit → sProp 𝕄) :
    EIdle m c p ⊢ iprop((EFly m c k -∗ Q ⟨⟩) -∗ wpc c (stCopy c k) Q) := by
  subst hp
  unfold EIdle EFly stCopy xAt
  simp only [Prog.lift]
  iintro ⟨Hx, ⟨%f, He⟩, Hz⟩ Hk
  have hW := Transfers.wp_dmaFromWhole (src := xB c k) (dst := eS (sl k)) (sm := .dma (semB (sl k))) (via := .same) (k := fun u => Prog.ret u) (Q := Q) (q := xs (sl k)) (fs := xV m c) (fd := f)
    (Sd := (eS (sl k)).view.set) (defs := defs₀ (F := F)) (hsrc := (View.wordExact_bits rfl).reshape _ _) (hdst := (View.wordExact_bits rfl).reshape _ _) (hsem := ⟨Or.inl rfl, trivial⟩)
    (countersEmb (U := UU)) 𝒱₀ (c : Thread nD τ) none () (eS (sl k)).view.dmaCredit rfl (View.dmaCredit_pos _ (by decide)) subset_rfl
  iapply hW $$ [Hx He Hz]
  · isplitl [Hx]; · iexact Hx
    isplitl [He]; · iexact He
    iexact Hz
  iintro HF
  rw [wp_ret]
  imodintro
  iapply Hk
  iexists f
  iexact HF

/-- Waiting for block `k`. -/
theorem wp_stCopied (c : Dev nD) (k : Fin 4) (Q : PUnit → sProp 𝕄) :
    iprop(Ctx m K ∗ EFly m c k ∗ Owe c (Ow c 32)) ⊢ iprop(((Owe c (Ow c 32) ∗ ERdy m c k) -∗ Q ⟨⟩) -∗ wpc c (stCopied c k) Q) := by
  unfold EFly ERdy eHas Owe stCopied
  simp only [Prog.lift]
  iintro ⟨#HC, ⟨%f, HF⟩, ⟨%W, HO⟩⟩ Hk
  iapply (Transfers.wp_waitLocalO (countersEmb (U := UU)) 𝒱₀ (c : Thread nD τ) none () rfl) $$ [HF HO]
  · isplitl [HF]; · iexact HF
    isplitl [HO]; · iexact HO
    iapply (mayWait_zero m K c (.dma (semB (sl k))) 32 (semB_lv (sl k))); iexact HC
  iintro ⟨⟨He, Hx⟩, Hz, HO⟩
  rw [wp_ret]
  imodintro
  iapply Hk
  isplitl [HO]; · iexists _; iexact HO
  isplitl [He]; · iexists f; iexact He
  isplitl [Hx]; · iexact Hx
  iexact Hz

/-- Block `k` of the gathered rows. -/
def gBlk (c : Dev nD) (k : Fin 4) (q : PosShare TreeShare) : sProp 𝕄 := gM.view.loc (c : Thread nD τ) ↦[bl c k]{q} (Gv m c)

/-- A block of the gathered rows is its eight chunks. -/
theorem gBlk_eq (c : Dev nD) (k : Fin 4) (q : PosShare TreeShare) : gBlk m c k q = bigSep Finset.univ fun s : Fin 8 => gPts m c (lg k, s) q :=
  pts_parts (ℓ := gM.view.loc (c : Thread nD τ)) (bl c k) (fun s => ch c (lg k, s)) (fun s s' h => ch_disjoint c fun e => h (congrArg Prod.snd e)) fun i => by
    rw [bl_eq, Finset.mem_biUnion]
    exact ⟨fun ⟨t, _, h⟩ => ⟨t, h⟩, fun ⟨t, h⟩ => ⟨t, Finset.mem_univ _, h⟩⟩

/-- The result's buffer with its first `t` blocks done. -/
def OutI (c : Dev nD) (t : ℕ) : sProp 𝕄 :=
  iprop(∃ f : (cc0_stg0_0 : Ref sig .tc).ty.Contents (Elt F), (outM.view.loc (c : Thread nD τ) ↦{fullShare} f) ∗ ⌜∀ k : Fin 4, k.val < t → ∀ i ∈ bl c k, f i = Ov m c i⌝)

theorem lg_inj : ∀ k k' : Fin 4, lg k = lg k' → k = k' := by decide

theorem bl_disjoint (c : Dev nD) {k k' : Fin 4} {i : S8192x1024.Idx} (h : i ∈ bl c k) (h' : i ∈ bl c k') : k = k' := by
  rw [mem_bl] at h h'
  have e : bk c (lg k) = bk c (lg k') := by omega
  exact lg_inj k k' (bk_inj c _ _ e)

theorem store_keeps (c : Dev nD) (k : Fin 4) (f : (cc0_stg0_0 : Ref sig .tc).ty.Contents (Elt F)) (w) {i : S8192x1024.Idx} (h : i ∉ bl c k) :
    (outM.access (oR c k)).write (Elt F) f w Finset.univ i = f i := by
  refine View.write_of_not_mem _ _ _ ?_
  rw [View.setOn_univ, View.set_slice_whole]
  exact h

theorem out_step (c : Dev nD) (k : Fin 4) (p : Fin 2) (fe : (cc0_scratch3 : Ref sig .tc).ty.Contents (Elt F)) (fo : (cc0_stg0_0 : Ref sig .tc).ty.Contents (Elt F))
    (h : ∀ k' : Fin 4, k'.val < k.val → ∀ i ∈ bl c k', fo i = Ov m c i) :
    ∀ k' : Fin 4, k'.val < k.val + 1 → ∀ i ∈ bl c k', (outM.access (oR c k)).write (Elt F) fo
        (payO (gM.view.readAt (Elt F) (oR c k).toLoadRect (Gv m c))
          (eM.view.readAt (Elt F) (eR p).toLoadRect ((eS p).view.write (Elt F) fe ((xB c k).view.read (Elt F) (xV m c)) Finset.univ))) Finset.univ i = Ov m c i := by
  intro k' hk' i hi
  by_cases e : k' = k
  · subst e
    exact store_o m c k' p fe fo hi
  · refine (store_keeps c k fo _ fun h' => e (bl_disjoint c hi h')).trans (h k' ?_ i hi)
    have : k'.val ≠ k.val := fun e' => e (Fin.ext e')
    omega

theorem g_load (c : Dev nD) (k : Fin 4) : gM.view.setOn (oR c k).toLoadRect.set ⊆ bl c k := by
  rw [show gM.view.setOn (oR c k).toLoadRect.set = (gM.view.slice (oR c k)).set from (View.set_slice _ _).symm, View.set_slice_whole]
theorem e_load (p : Fin 2) : eM.view.setOn (eR p).toLoadRect.set ⊆ (eS p).view.set := by rw [View.set_reshape, View.set_slice]; exact subset_rfl

/-- Adding block `k`. -/
theorem wp_stAdd (c : Dev nD) (k : Fin 4) (q : PosShare TreeShare) (Q : PUnit → sProp 𝕄) :
    iprop(ERdy m c k ∗ gBlk m c k q ∗ OutI m c k.val)
      ⊢ iprop(((ERdy m c k ∗ gBlk m c k q ∗ OutI m c (k.val + 1)) -∗ Q ⟨⟩) -∗ wpc c (stAdd c k) Q) := by
  unfold ERdy eHas gBlk OutI stAdd
  simp only [Prog.lift, Prog.bind_op, Prog.bind_ret]
  iintro ⟨⟨⟨%fe, He⟩, Hx, Hz⟩, Hg, ⟨%fo, Ho, %hfo⟩⟩ Hk
  iapply (wp_load 𝒱₀ (c : Thread nD τ) none Set.univ (m := gM) (S := bl c k) (q := q) (f := Gv m c) (g_load c k)) $$ Hg; iintro Hg
  iapply (wp_load 𝒱₀ (c : Thread nD τ) none Set.univ (m := eM) (S := (eS (sl k)).view.set) (q := fullShare) (e_load (sl k))) $$ He; iintro He
  iapply (wp_load 𝒱₀ (c : Thread nD τ) none Set.univ (m := outM) (S := Finset.univ) (q := fullShare) (f := fo) (Finset.subset_univ _)) $$ Ho; iintro Ho
  iapply (wp_store 𝒱₀ (c : Thread nD τ) none Set.univ (m := outM) (r := oR c k) (Mk := Finset.univ) (S := Finset.univ) (f := fo) (Finset.subset_univ _)) $$ Ho; iintro Ho
  rw [wp_ret]
  imodintro
  iapply Hk
  isplitl [He Hx Hz]
  · isplitl [He]; · iexists fe; iexact He
    iframe Hx Hz
  isplitl [Hg]; · iexact Hg
  iexists _
  isplitl [Ho]; · iexact Ho
  ipureintro
  exact out_step m c k (sl k) fe fo hfo

theorem out_start (c : Dev nD) : iprop(∃ f : (cc0_stg0_0 : Ref sig .tc).ty.Contents (Elt F), outM.view.loc (c : Thread nD τ) ↦{fullShare} f) ⊢ OutI m c 0 := by
  unfold OutI
  iintro ⟨%f, H⟩
  iexists f
  isplitl [H]; · iexact H
  ipureintro
  intro k h
  exact absurd h (Nat.not_lt_zero _)

theorem out_done (c : Dev nD) : OutI m c 4 ⊢ (outM.view.loc (c : Thread nD τ) ↦{fullShare} (Ov m c) : sProp 𝕄) := by
  unfold OutI
  iintro ⟨%f, H, %h⟩
  have e : f = Ov m c := funext fun i => by
    obtain ⟨k, hk⟩ := bl_cover c i
    exact h k k.isLt i hk
  subst e
  iexact H

/-- The arrivals on leg `d`. -/
theorem wp_recvD (c : Dev nD) (Q : PUnit → sProp 𝕄) :
    iprop(Ctx m K ∗ Owe c (Ow c 32) ∗ bigSep Finset.univ fun s : Fin 8 => Wt c (.inr (.d, s)))
      ⊢ iprop(((Owe c (Ow c 32) ∗ bigSep Finset.univ fun s : Fin 8 => iprop(semVal (rcvC c (.d, s)) 0 ∗ gPts m c (.d, s) fullShare)) -∗ Q ⟨⟩)
        -∗ wpc c (eight fun s => stRecv c (.d, s)) Q) :=
  wp_eight c (fun s => stRecv c (.d, s)) (Ctx m K) (fun _ => Owe c (Ow c 32)) _ _ (fun s Q => by
    iintro ⟨#HC, HO, HW⟩ Hk
    iapply (wp_recv m K c (.d, s) 32 (fun n' h => absurd (ord_lt n') (by omega)) Q) $$ [HO HW]
    · isplitr; · iexact HC
      iframe HW HO
    iintro ⟨HO, Hz, Hg⟩
    iapply Hk
    iframe HO Hz Hg) Q

/-- What the additions hold throughout: the slots free, the gathered rows of the first three blocks. -/
def AddS (c : Dev nD) (q : PosShare TreeShare) : sProp 𝕄 :=
  iprop((EIdle m c 0 ∗ EIdle m c 1) ∗ (gBlk m c 0 q ∗ gBlk m c 1 q ∗ gBlk m c 2 q))

/-- The additions. -/
theorem wp_stC (c : Dev nD) (q : PosShare TreeShare) (Q : PUnit → sProp 𝕄) :
    iprop(Ctx m K ∗ Owe c (Ow c 32) ∗ AddS m c q ∗ OutI m c 0 ∗ bigSep Finset.univ fun s : Fin 8 => Wt c (.inr (.d, s)))
      ⊢ iprop(((Owe c (Ow c 32) ∗ AddS m c q ∗ OutI m c 4 ∗ gBlk m c 3 fullShare ∗ bigSep Finset.univ fun s : Fin 8 => semVal (rcvC c (.d, s)) 0) -∗ Q ⟨⟩)
        -∗ wpc c (stC c) Q) := by
  unfold AddS stC
  simp only [wp_bind]
  iintro ⟨#HC, HO, ⟨⟨E0, E1⟩, ⟨G0, G1, G2⟩⟩, HI, HW⟩ Hk
  iapply (wp_stCopy m c 0 0 rfl _) $$ E0; iintro F0
  iapply (wp_stCopy m c 1 1 rfl _) $$ E1; iintro F1
  iapply (wp_stCopied m K c 0 _) $$ [F0 HO]
  · isplitr; · iexact HC
    iframe F0 HO
  iintro ⟨HO, R0⟩
  iapply (wp_stAdd m c 0 q _) $$ [R0 G0 HI]
  · iframe R0 G0; iexact HI
  iintro ⟨R0, G0, HI⟩
  ihave E0 := (rdy_idle m c 0 0 rfl) $$ R0
  iapply (wp_stCopy m c 2 0 rfl _) $$ E0; iintro F0
  iapply (wp_stCopied m K c 1 _) $$ [F1 HO]
  · isplitr; · iexact HC
    iframe F1 HO
  iintro ⟨HO, R1⟩
  iapply (wp_stAdd m c 1 q _) $$ [R1 G1 HI]
  · iframe R1 G1; iexact HI
  iintro ⟨R1, G1, HI⟩
  ihave E1 := (rdy_idle m c 1 1 rfl) $$ R1
  iapply (wp_stCopy m c 3 1 rfl _) $$ E1; iintro F1
  iapply (wp_stCopied m K c 2 _) $$ [F0 HO]
  · isplitr; · iexact HC
    iframe F0 HO
  iintro ⟨HO, R0⟩
  iapply (wp_stAdd m c 2 q _) $$ [R0 G2 HI]
  · iframe R0 G2; iexact HI
  iintro ⟨R0, G2, HI⟩
  ihave E0 := (rdy_idle m c 2 0 rfl) $$ R0
  iapply (wp_recvD m K c _) $$ [HO HW]
  · isplitr; · iexact HC
    iframe HO HW
  iintro ⟨HO, HD⟩
  ihave HD' := (Entails.of_eq (bigSep_sep' _ _ _)) $$ HD
  icases HD' with ⟨HZ, HG⟩
  ihave G3 := (show (bigSep Finset.univ fun s : Fin 8 => gPts m c (.d, s) fullShare) ⊢ gBlk m c 3 fullShare from Entails.of_eq (gBlk_eq m c 3 fullShare).symm) $$ HG
  iapply (wp_stCopied m K c 3 _) $$ [F1 HO]
  · isplitr; · iexact HC
    iframe F1 HO
  iintro ⟨HO, R1⟩
  iapply (wp_stAdd m c 3 fullShare _) $$ [R1 G3 HI]
  · iframe R1 G3; iexact HI
  iintro ⟨R1, G3, HI⟩
  ihave E1 := (rdy_idle m c 3 1 rfl) $$ R1
  iapply Hk
  isplitl [HO]; · iexact HO
  isplitl [E0 E1 G0 G1 G2]; · iframe E0 E1 G0 G1 G2
  isplitl [HI]; · iexact HI
  iframe G3 HZ

end Cert.KProof

end
-- ==== Proof.Whole.lean ====
/-
# The whole body

What a device holds at the start, dealt to the phases, and what they give back, put together again.
-/
module

public import proofs.«01_k».proof.Proof.Add

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## Regrouping -/

/-- Transfers by leg. -/
theorem by_leg (Φ : Tr → sProp 𝕄) : bigSep Finset.univ Φ = iprop((bigSep Finset.univ fun s : Fin 8 => Φ (.z, s)) ∗ (bigSep Finset.univ fun s : Fin 8 => Φ (.x, s))
    ∗ (bigSep Finset.univ fun s : Fin 8 => Φ (.y, s)) ∗ bigSep Finset.univ fun s : Fin 8 => Φ (.d, s)) := by
  rw [bigSep_univ_prod]
  exact bigSep_univ_eq_bigSepL [Leg.z, Leg.x, Leg.y, Leg.d] (by decide) (by decide) _

/-- Two parts of a buffer, at whatever contents, are the buffer at some contents. -/
theorem two_join {ℓ : Loc nD τ sig} (I J : Finset (Idx ℓ)) (hd : Disjoint I J) (hc : ∀ i, i ∈ I ∨ i ∈ J) :
    iprop((∃ f : Buf (Elt F) ℓ, ℓ ↦[I]{fullShare} f) ∗ ∃ f : Buf (Elt F) ℓ, ℓ ↦[J]{fullShare} f) ⊢ (iprop(∃ f : Buf (Elt F) ℓ, ℓ ↦{fullShare} f) : sProp 𝕄) := by
  iintro ⟨⟨%f, Hf⟩, ⟨%g, Hg⟩⟩
  iexists (J.piecewise g f)
  ihave H := (pointsTo_join hd) $$ [Hf Hg]
  · isplitl [Hf] <;> iassumption
  rw [show (Finset.univ : Finset (Idx ℓ)) = I ∪ J from (Finset.eq_univ_of_forall fun i => Finset.mem_union.mpr (hc i)).symm]
  iexact H

/-- Slot `s` of the rows to send and slot `p` of the rows staged to be added, as rectangles of their buffers. -/
theorem bS_set (s : Fin 8) : (bS s).view.set = (bR s).set := by rw [View.set_reshape]; exact View.set_slice_whole _ _
theorem eS_set (p : Fin 2) : (eS p).view.set = (eR p).set := by rw [View.set_reshape]; exact View.set_slice_whole _ _

theorem mem_bS (s : Fin 8) (i : S8x256x1024.Idx) : i ∈ (bS s).view.set ↔ (i 0).val = s.val := by
  rw [bS_set, Rect.mem_set_unit]
  have h1 : (i 1).val < 256 := (i 1).isLt
  have h2 : (i 2).val < 1024 := (i 2).isLt
  constructor
  · intro h
    have h0 := h 0
    have e0 : (![s.val, 0, 0] : Fin 3 → ℕ) 0 = s.val := rfl
    have e1 : S1x256x1024.size 0 = 1 := rfl
    omega
  · intro h a
    match a with
    | ⟨0, _⟩ => exact ⟨Nat.le_of_eq h.symm, Nat.lt_succ_of_le (Nat.le_of_eq h)⟩
    | ⟨1, _⟩ => exact ⟨Nat.zero_le _, h1.trans_eq (Nat.zero_add _).symm⟩
    | ⟨2, _⟩ => exact ⟨Nat.zero_le _, h2.trans_eq (Nat.zero_add _).symm⟩

theorem mem_eS (p : Fin 2) (i : S2x2048x1024.Idx) : i ∈ (eS p).view.set ↔ (i 0).val = p.val := by
  rw [eS_set, Rect.mem_set_unit]
  have h1 : (i 1).val < 2048 := (i 1).isLt
  have h2 : (i 2).val < 1024 := (i 2).isLt
  constructor
  · intro h
    have h0 := h 0
    have e0 : (![p.val, 0, 0] : Fin 3 → ℕ) 0 = p.val := rfl
    have e1 : S1x2048x1024.size 0 = 1 := rfl
    omega
  · intro h a
    match a with
    | ⟨0, _⟩ => exact ⟨Nat.le_of_eq h.symm, Nat.lt_succ_of_le (Nat.le_of_eq h)⟩
    | ⟨1, _⟩ => exact ⟨Nat.zero_le _, h1.trans_eq (Nat.zero_add _).symm⟩
    | ⟨2, _⟩ => exact ⟨Nat.zero_le _, h2.trans_eq (Nat.zero_add _).symm⟩

/-- The rows to send, slot by slot. -/
theorem b_slots (c : Dev nD) (f : (cc0_scratch2 : Ref sig .tc).ty.Contents (Elt F)) :
    (bM.view.loc (c : Thread nD τ) ↦{fullShare} f : sProp 𝕄) = bigSep Finset.univ fun s : Fin 8 => bM.view.loc (c : Thread nD τ) ↦[(bS s).view.set]{fullShare} f :=
  pts_all (ℓ := bM.view.loc (c : Thread nD τ)) (fun s => (bS s).view.set)
    (fun s s' h => Finset.disjoint_left.mpr fun i hi hi' => h (Fin.ext (((mem_bS s i).mp hi).symm.trans ((mem_bS s' i).mp hi'))))
    fun i => ⟨i 0, (mem_bS (i 0) i).mpr rfl⟩

theorem b_open (c : Dev nD) (f : (cc0_scratch2 : Ref sig .tc).ty.Contents (Elt F)) :
    (bM.view.loc (c : Thread nD τ) ↦{fullShare} f : sProp 𝕄) ⊢ bigSep Finset.univ fun s : Fin 8 => bAny c s := by
  rw [b_slots]
  have h (s : Fin 8) : (bM.view.loc (c : Thread nD τ) ↦[(bS s).view.set]{fullShare} f : sProp 𝕄) ⊢ bAny c s := by
    unfold bAny
    iintro H
    iexists f
    iexact H
  exact bigSep_mono fun s _ => h s

theorem b_close (c : Dev nD) : (bigSep Finset.univ fun s : Fin 8 => bPts m c s) ⊢ (bM.view.loc (c : Thread nD τ) ↦{fullShare} (Bv m c) : sProp 𝕄) :=
  Entails.of_eq (b_slots c (Bv m c)).symm

theorem e_disj : Disjoint (eS 0).view.set (eS 1).view.set :=
  Finset.disjoint_left.mpr fun i hi hi' => absurd (((mem_eS 0 i).mp hi).symm.trans ((mem_eS 1 i).mp hi')) (by decide)
theorem e_cov (i : S2x2048x1024.Idx) : i ∈ (eS 0).view.set ∨ i ∈ (eS 1).view.set := by
  have h : (i 0).val < 2 := (i 0).isLt
  rw [mem_eS, mem_eS]
  have e0 : (0 : Fin 2).val = 0 := rfl
  have e1 : (1 : Fin 2).val = 1 := rfl
  omega

theorem bigSep_two (Φ : Fin 2 → sProp 𝕄) : bigSep Finset.univ Φ = iprop(Φ 0 ∗ Φ 1) := bigSep_univ_eq_bigSepL [0, 1] (by decide) (by decide) Φ

theorem e_open (c : Dev nD) (f : (cc0_scratch3 : Ref sig .tc).ty.Contents (Elt F)) : (eM.view.loc (c : Thread nD τ) ↦{fullShare} f : sProp 𝕄)
    ⊢ iprop((eM.view.loc (c : Thread nD τ) ↦[(eS 0).view.set]{fullShare} f) ∗ (eM.view.loc (c : Thread nD τ) ↦[(eS 1).view.set]{fullShare} f)) := by
  rw [pts_all (ℓ := eM.view.loc (c : Thread nD τ)) (fun p : Fin 2 => (eS p).view.set)
    (fun s s' h => Finset.disjoint_left.mpr fun i hi hi' => h (Fin.ext (((mem_eS s i).mp hi).symm.trans ((mem_eS s' i).mp hi'))))
    fun i => ⟨i 0, (mem_eS (i 0) i).mpr rfl⟩]
  exact Entails.of_eq (bigSep_two _)

/-- The semaphores of the copies within a device, at zero. -/
def Sems3 (c : Dev nD) : sProp 𝕄 :=
  iprop(semVal ((c : Thread nD τ), .dma semA) 0 ∗ semVal ((c : Thread nD τ), .dma (semB 0)) 0 ∗ semVal ((c : Thread nD τ), .dma (semB 1)) 0)

/-- The argument, whole. -/
abbrev xFull (c : Dev nD) : sProp 𝕄 := xM.view.loc (c : Thread nD τ) ↦{fullShare} (xV m c)

/-- The argument at the two slots' shares. -/
theorem x_half (c : Dev nD) : xFull m c ⊣⊢ iprop(xAt m c 0 ∗ xAt m c 1) := pointsTo_share (PosShare.mem_left_op_right fullShare)

/-- The two free slots, from their buffer, their semaphores and the argument. -/
theorem e_start (c : Dev nD) : iprop((∃ f : (cc0_scratch3 : Ref sig .tc).ty.Contents (Elt F), eM.view.loc (c : Thread nD τ) ↦{fullShare} f) ∗ xFull m c
      ∗ semVal ((c : Thread nD τ), .dma (semB 0)) 0 ∗ semVal ((c : Thread nD τ), .dma (semB 1)) 0) ⊢ iprop(EIdle m c 0 ∗ EIdle m c 1) := by
  unfold EIdle
  iintro ⟨⟨%f, He⟩, Hx, H0, H1⟩
  ihave He' := (e_open c f) $$ He
  icases He' with ⟨He0, He1⟩
  ihave Hx' := (x_half m c).1 $$ Hx
  icases Hx' with ⟨Hx0, Hx1⟩
  isplitl [He0 Hx0 H0]
  · isplitl [Hx0]; · iexact Hx0
    isplitl [He0]; · iexists f; iexact He0
    iexact H0
  isplitl [Hx1]; · iexact Hx1
  isplitl [He1]; · iexists f; iexact He1
  iexact H1

theorem e_end (c : Dev nD) : iprop(EIdle m c 0 ∗ EIdle m c 1) ⊢ iprop((∃ f : (cc0_scratch3 : Ref sig .tc).ty.Contents (Elt F), eM.view.loc (c : Thread nD τ) ↦{fullShare} f) ∗ xFull m c
      ∗ semVal ((c : Thread nD τ), .dma (semB 0)) 0 ∗ semVal ((c : Thread nD τ), .dma (semB 1)) 0) := by
  unfold EIdle
  iintro ⟨⟨Hx0, He0, H0⟩, ⟨Hx1, He1, H1⟩⟩
  isplitl [He0 He1]
  · iapply (two_join (ℓ := eM.view.loc (c : Thread nD τ)) (eS 0).view.set (eS 1).view.set e_disj e_cov)
    isplitl [He0]; · iexact He0
    iexact He1
  isplitl [Hx0 Hx1]
  · iapply (x_half m c).2
    iframe Hx0 Hx1
  iframe H0 H1

/-! ## What a device starts from and ends with -/

/-- The duties device `c` pays. -/
def Toks (c : Dev nD) : sProp 𝕄 :=
  iprop((bigSep Finset.univ fun a : Fin 3 => dutyTok ER (barC (nb c a)) 0 a)
    ∗ (bigSep Finset.univ fun n : Tr => dutyTok ER (sndC c n) 0 0) ∗ (bigSep Finset.univ fun n : Tr => dutyTok ER (rcvC (tgt c n) n) 0 0))
/-- Its positions at its own cells. -/
def Ats (c : Dev nD) : sProp 𝕄 := bigSep Finset.univ fun k : CI => atPos ER (kcell (c, k)) 0 ∅ 0
/-- The credits the partners' debts give it. -/
def Crs (c : Dev nD) : sProp 𝕄 := iprop(cred (tallyAt (barC c) () 3) ∗ bigSep Finset.univ fun n : Tr => cred (tallyAt (rcvC c n) () N))
/-- Its scratch buffers. -/
def Bufs (c : Dev nD) : sProp 𝕄 :=
  iprop((∃ f, gM.view.loc (c : Thread nD τ) ↦{fullShare} f) ∗ (∃ f, aM.view.loc (c : Thread nD τ) ↦{fullShare} f)
    ∗ (∃ f, bM.view.loc (c : Thread nD τ) ↦{fullShare} f) ∗ (∃ f, eM.view.loc (c : Thread nD τ) ↦{fullShare} f))
/-- Its own semaphores at zero. -/
def OwnZ (c : Dev nD) : sProp 𝕄 := iprop(Sems3 c ∗ bigSep Finset.univ fun k : Tr ⊕ Tr => semVal (kcell (c, .inr k)) 0)

/-- The positions, kind by kind. -/
theorem ats_split (c : Dev nD) : Ats (F := F) c ⊢ iprop(atPos ER (barC c) 0 ∅ 0 ∗ (bigSep Finset.univ fun n : Tr => SndAt c n) ∗ bigSep Finset.univ fun n : Tr => atPos ER (rcvC c n) 0 ∅ 0) := by
  unfold Ats SndAt
  rw [bigSep_univ_sum, bigSep_univ_sum]
  refine sep_mono_left (Entails.of_eq ?_)
  exact bigSep_singleton

/-- The positions and credits of the receive cells. -/
theorem wts (c : Dev nD) : iprop((bigSep Finset.univ fun n : Tr => (atPos ER (rcvC c n) 0 ∅ 0 : sProp 𝕄)) ∗ bigSep Finset.univ fun n : Tr => cred (tallyAt (rcvC c n) () N))
    ⊢ bigSep Finset.univ fun n : Tr => Wt c (.inr n) := by
  rw [← bigSep_sep']
  exact BI.Entails.refl _

theorem pds (c : Dev nD) : iprop((bigSep Finset.univ fun n : Tr => (dutyTok ER (sndC c n) 0 0 : sProp 𝕄)) ∗ (bigSep Finset.univ fun n : Tr => dutyTok ER (rcvC (tgt c n) n) 0 0)
      ∗ bigSep Finset.univ fun n : Tr => Dst c n) ⊢ bigSep Finset.univ fun n : Tr => Pd c n := by
  rw [← bigSep_sep', ← bigSep_sep']
  exact BI.Entails.refl _

/-- What the eight forwardings take. -/
theorem fwd_in (c : Dev nD) : iprop(((bigSep Finset.univ fun s : Fin 8 => Wt (F := F) c (.inr (.z, s))) ∗ (bigSep Finset.univ fun s : Fin 8 => Wt c (.inr (.x, s))) ∗ bigSep Finset.univ fun s : Fin 8 => Wt c (.inr (.y, s)))
      ∗ (bigSep Finset.univ fun s : Fin 8 => Pd c (.x, s)) ∗ (bigSep Finset.univ fun s : Fin 8 => Pd c (.y, s)) ∗ bigSep Finset.univ fun s : Fin 8 => Pd c (.d, s))
    ⊢ bigSep Finset.univ fun s : Fin 8 => FwdIn c s := by
  unfold FwdIn
  simp only [bigSep_sep']
  exact BI.Entails.refl _

/-- What they give back: the unread halves of the first three blocks, the rest. -/
theorem fwd_out (c : Dev nD) : (bigSep Finset.univ fun s : Fin 8 => FwdOut m c s)
    ⊢ iprop((gBlk m c 0 fullShare.left ∗ gBlk m c 1 fullShare.left ∗ gBlk m c 2 fullShare.left)
      ∗ (bigSep Finset.univ fun s : Fin 8 => gPts m c (oth s) fullShare.right) ∗ (bigSep Finset.univ fun s : Fin 8 => RcvZ c s) ∗ bigSep Finset.univ fun s : Fin 8 => FwdCr c s) := by
  unfold FwdOut HomeL
  simp only [bigSep_sep', gBlk_eq]
  exact BI.Entails.refl _

/-- What the eight drains take. -/
theorem drain_in (c : Dev nD) : iprop(((bigSep Finset.univ fun s : Fin 8 => SndAt (F := F) c (.x, s)) ∗ (bigSep Finset.univ fun s : Fin 8 => SndAt c (.y, s)) ∗ bigSep Finset.univ fun s : Fin 8 => SndAt c (.d, s))
      ∗ (bigSep Finset.univ fun s : Fin 8 => FwdCr c s) ∗ (gBlk m c 0 fullShare.left ∗ gBlk m c 1 fullShare.left ∗ gBlk m c 2 fullShare.left)
      ∗ bigSep Finset.univ fun s : Fin 8 => gPts m c (oth s) fullShare.right)
    ⊢ bigSep Finset.univ fun s : Fin 8 => iprop(SndsAt c s ∗ FwdCr c s ∗ HomeL m c s ∗ gPts m c (oth s) fullShare.right) := by
  unfold SndsAt HomeL
  simp only [bigSep_sep', gBlk_eq]
  exact BI.Entails.refl _

/-- The gathered buffer, from its rows. -/
theorem g_close (c : Dev nD) : iprop((bigSep Finset.univ fun s : Fin 8 => Home m c s) ∗ gBlk m c 3 fullShare) ⊢ (gM.view.loc (c : Thread nD τ) ↦{fullShare} (Gv m c) : sProp 𝕄) := by
  rw [g_chunks, by_leg]
  unfold Home
  simp only [bigSep_sep', gBlk_eq]
  iintro ⟨⟨Hz, Hx, Hy⟩, Hd⟩
  isplitl [Hz]; · iexact Hz
  isplitl [Hx]; · iexact Hx
  isplitl [Hy]; · iexact Hy
  iexact Hd

/-- The transfers' semaphores, from the phases that close them. -/
theorem own_close (c : Dev nD) : iprop((bigSep Finset.univ fun s : Fin 8 => (semVal (sndC c (.z, s)) 0 : sProp 𝕄)) ∗ (bigSep Finset.univ fun s : Fin 8 => SndZ c s)
      ∗ (bigSep Finset.univ fun s : Fin 8 => RcvZ c s) ∗ bigSep Finset.univ fun s : Fin 8 => semVal (rcvC c (.d, s)) 0)
    ⊢ bigSep Finset.univ fun k : Tr ⊕ Tr => semVal (kcell (c, .inr k)) 0 := by
  rw [bigSep_univ_sum, by_leg, by_leg]
  unfold SndZ RcvZ
  simp only [bigSep_sep']
  show _ ⊢ iprop(((bigSep Finset.univ fun s : Fin 8 => (semVal (sndC c (.z, s)) 0 : sProp 𝕄)) ∗ (bigSep Finset.univ fun s : Fin 8 => semVal (sndC c (.x, s)) 0)
      ∗ (bigSep Finset.univ fun s : Fin 8 => semVal (sndC c (.y, s)) 0) ∗ bigSep Finset.univ fun s : Fin 8 => semVal (sndC c (.d, s)) 0)
    ∗ (bigSep Finset.univ fun s : Fin 8 => (semVal (rcvC c (.z, s)) 0 : sProp 𝕄)) ∗ (bigSep Finset.univ fun s : Fin 8 => semVal (rcvC c (.x, s)) 0)
      ∗ (bigSep Finset.univ fun s : Fin 8 => semVal (rcvC c (.y, s)) 0) ∗ bigSep Finset.univ fun s : Fin 8 => semVal (rcvC c (.d, s)) 0)
  iintro ⟨Hz, ⟨Hx, Hy, Hd⟩, ⟨Rz, Rx, Ry⟩, Rd⟩
  isplitl [Hz Hx Hy Hd]
  · isplitl [Hz]; · iexact Hz
    isplitl [Hx]; · iexact Hx
    isplitl [Hy]; · iexact Hy
    iexact Hd
  isplitl [Rz]; · iexact Rz
  isplitl [Rx]; · iexact Rx
  isplitl [Ry]; · iexact Ry
  iexact Rd

/-- The body on device `c`: from what it starts with to its result and everything else given back. -/
theorem wp_steps (c : Dev nD) (Q : PUnit → sProp 𝕄) :
    iprop(Ctx m K ∗ (Toks c ∗ Ats c ∗ Crs c) ∗ Sems3 c ∗ Bufs c ∗ xFull m c ∗ (∃ f : (cc0_stg0_0 : Ref sig .tc).ty.Contents (Elt F), outM.view.loc (c : Thread nD τ) ↦{fullShare} f) ∗ Owe c (O₀ c))
      ⊢ iprop(((Owe c 0 ∗ semVal (barC c) 0 ∗ OwnZ c ∗ Bufs c ∗ xFull m c ∗ (outM.view.loc (c : Thread nD τ) ↦{fullShare} (Ov m c))) -∗ Q ⟨⟩) -∗ wpc c (steps c) Q) := by
  unfold Toks Crs Bufs OwnZ Sems3 steps
  simp only [wp_bind]
  iintro ⟨#HC, ⟨⟨Htb, Hts, Htr⟩, Hat, ⟨Hcb, Hcr⟩⟩, ⟨HsA, HsB0, HsB1⟩, ⟨Hg, Ha, ⟨%fb, Hb⟩, He⟩, Hx, Hout, HO⟩ Hk
  ihave Hat' := (ats_split c) $$ Hat
  icases Hat' with ⟨Hab, Has, Har⟩
  -- the handshake
  iapply (wp_bar m K c _) $$ [Htb Hg Hab Hcb HO]
  · isplitr; · iexact HC
    isplitr [HO]
    · unfold BarS
      isplitl [Htb]; · iexact Htb
      isplitl [Hg]; · iexact Hg
      isplitl [Hab]; · iexact Hab
      iexact Hcb
    iexact HO
  iintro ⟨HO, Hzb, Hdst⟩
  ihave Hwt := (wts (F := F) c) $$ [Har Hcr]
  · isplitl [Har] <;> iassumption
  ihave Hpd := (pds (F := F) c) $$ [Hts Htr Hdst]
  · isplitl [Hts]; · iexact Hts
    isplitl [Htr] <;> iassumption
  ihave Hwt' := (Entails.of_eq (by_leg fun n : Tr => Wt (F := F) c (.inr n))) $$ Hwt
  icases Hwt' with ⟨Wz, Wx, Wy, Wd⟩
  ihave Hpd' := (Entails.of_eq (by_leg fun n : Tr => Pd (F := F) c n)) $$ Hpd
  icases Hpd' with ⟨Pz, Px, Py, Pd⟩
  ihave Has' := (Entails.of_eq (by_leg fun n : Tr => SndAt (F := F) c n)) $$ Has
  icases Has' with ⟨Az, Ax, Ay, Ad⟩
  ihave Hb' := (b_open c fb) $$ Hb
  -- the own rows
  iapply (wp_eight c (stA c) (Ctx m K) (fun t => iprop(StA m c fullShare ∗ Owe c (Ow c t))) (fun s => iprop(bAny c s ∗ KProof.Pd c (.z, s)))
    (fun s => cred (tallyAt (sndC c (.z, s)) () N)) (fun s Q => wp_stA m K c fullShare s Q) _) $$ [HO Hx Ha HsA Hb' Pz]
  · isplitr; · iexact HC
    isplitr [Hb' Pz]
    · isplitr [HO]
      · unfold StA
        isplitl [Hx]; · iexact Hx
        isplitl [Ha]; · iexact Ha
        iexact HsA
      iexact HO
    iapply (Entails.of_eq (bigSep_sep' Finset.univ (fun s : Fin 8 => bAny (F := F) c s) (fun s => KProof.Pd c (.z, s))).symm)
    isplitl [Hb'] <;> iassumption
  iintro ⟨⟨HS, HO⟩, Cz⟩
  unfold StA
  icases HS with ⟨Hx, Ha, HsA⟩
  -- the forwarding
  iapply (wp_eight c (stB c) (Ctx m K) (fun t => Owe c (Ow c (8 + 3 * t))) (FwdIn c) (FwdOut m c) (wp_stB m K c) _) $$ [HO Wz Wx Wy Px Py Pd]
  · isplitr; · iexact HC
    isplitl [HO]; · iexact HO
    iapply (fwd_in (F := F) c)
    isplitl [Wz Wx Wy]; · iframe Wz Wx Wy
    iframe Px Py Pd
  iintro ⟨HO, HF⟩
  ihave HF' := (fwd_out m c) $$ HF
  icases HF' with ⟨HG, Hoth, Rz, Cf⟩
  -- the additions
  ihave HE := (e_start m c) $$ [He Hx HsB0 HsB1]
  · isplitl [He]; · iexact He
    isplitl [Hx]; · iexact Hx
    iframe HsB0 HsB1
  ihave HI := (out_start m c) $$ Hout
  iapply (wp_stC m K c fullShare.left _) $$ [HO HE HG HI Wd]
  · isplitr; · iexact HC
    isplitl [HO]; · iexact HO
    isplitl [HE HG]
    · unfold AddS
      isplitl [HE] <;> iassumption
    isplitl [HI] <;> iassumption
  iintro ⟨HO, HA, HI, G3, Rd⟩
  unfold AddS
  icases HA with ⟨HE, HG⟩
  ihave Hout := (out_done m c) $$ HI
  ihave HE' := (e_end m c) $$ HE
  icases HE' with ⟨He, Hx, HsB0, HsB1⟩
  -- the drains
  iapply (wp_eight c (fun s => stDrain c (.z, s)) (Ctx m K) (fun _ => Owe c (Ow c 32)) (fun s => iprop(SndAt c (.z, s) ∗ cred (tallyAt (sndC c (.z, s)) () N)))
    (fun s => iprop(semVal (sndC c (.z, s)) 0 ∗ bPts m c s)) (wp_stDrainZ m K c) _) $$ [HO Az Cz]
  · isplitr; · iexact HC
    isplitl [HO]; · iexact HO
    iapply (Entails.of_eq (bigSep_sep' Finset.univ (fun s : Fin 8 => SndAt (F := F) c (.z, s)) (fun s => cred (tallyAt (sndC c (.z, s)) () N))).symm)
    isplitl [Az] <;> iassumption
  iintro ⟨HO, HZ⟩
  ihave HZ' := (Entails.of_eq (bigSep_sep' Finset.univ (fun s : Fin 8 => (semVal (sndC c (.z, s)) 0 : sProp 𝕄)) (fun s => bPts m c s))) $$ HZ
  icases HZ' with ⟨Zz, HB⟩
  ihave Hb := (b_close m c) $$ HB
  iapply (wp_eight c (stDrainF c) (Ctx m K) (fun _ => Owe c (Ow c 32)) (fun s => iprop(SndsAt c s ∗ FwdCr c s ∗ HomeL m c s ∗ gPts m c (oth s) fullShare.right))
    (fun s => iprop(SndZ c s ∗ Home m c s)) (wp_stDrainF m K c) _) $$ [HO Ax Ay Ad Cf HG Hoth]
  · isplitr; · iexact HC
    isplitl [HO]; · iexact HO
    iapply (drain_in m c)
    isplitl [Ax Ay Ad]; · iframe Ax Ay Ad
    isplitl [Cf]; · iexact Cf
    isplitl [HG] <;> iassumption
  iintro ⟨HO, HD⟩
  ihave HD' := (Entails.of_eq (bigSep_sep' Finset.univ (fun s : Fin 8 => SndZ (F := F) c s) (fun s => Home m c s))) $$ HD
  icases HD' with ⟨Zf, HH⟩
  ihave Hg := (g_close m c) $$ [HH G3]
  · isplitl [HH] <;> iassumption
  ihave Hz := (own_close (F := F) c) $$ [Zz Zf Rz Rd]
  · isplitl [Zz]; · iexact Zz
    isplitl [Zf]; · iexact Zf
    isplitl [Rz] <;> iassumption
  iapply Hk
  isplitl [HO]; · iapply (Entails.of_eq (congrArg (Owe (F := F) c) (Ow_end c))); iexact HO
  isplitl [Hzb]; · iexact Hzb
  isplitl [HsA HsB0 HsB1 Hz]
  · isplitl [HsA HsB0 HsB1]
    · isplitl [HsA]; · iexact HsA
      isplitl [HsB0] <;> iassumption
    iexact Hz
  isplitl [Hg Ha Hb He]
  · isplitl [Hg]; · iexists _; iexact Hg
    isplitl [Ha]; · iexact Ha
    isplitl [Hb]; · iexists _; iexact Hb
    iexact He
  isplitl [Hx]; · iexact Hx
  iexact Hout

end Cert.KProof

end
-- ==== Proof.Body.lean ====
/-
# The body's obligation

What the pipeline knows of the kernel before and after its one point, and the body run between the two.
-/
module

public import proofs.«01_k».proof.Proof.Whole

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (K : Dev nD × CI → ℕ)

/-- What device `c` holds when it starts, the scratch buffers and the output's staging buffer aside. -/
def start (c : Dev nD) : sProp 𝕄 := iprop((∃ K : Dev nD × CI → ℕ, Ctx m K) ∗ (Toks c ∗ Ats c ∗ Crs c) ∗ Sems3 c ∗ xFull m c)

/-- Before the point. -/
def Φ₀ (c : Dev nD) : sProp 𝕄 := iprop(start m c ∗ Bufs c)
/-- After it: every semaphore at zero, the argument as it was. -/
def Φ₁ (c : Dev nD) : sProp 𝕄 := iprop(semVal (barC c) 0 ∗ OwnZ c ∗ Bufs c ∗ xFull m c)

/-- The pipeline's account of the kernel: the result is staged whole. -/
def dats (_ : Fin 1) (c : Dev nD) : Dat τ (Elt F) Unit ℕ UU ℕ cfg0 c where
  A w := m ((cfg0.win w).arr.view.loc (c : Thread nD τ))
  after w _ := match w with
    | ⟨0, _⟩ => Ov m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns
  simp only [Memref.view_whole, View.read_whole, View.set_whole]

/-- The buffer `b` of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc ∗ ∃ d, stg c cc0_stg0_0 ((dats m 0 c).before (0 : Fin 1) t0_0 d))
def bodyPost (c : Dev nD) : sProp 𝕄 :=
  iprop(Φ₁ m c ∗ (dats m 0 c).owesAt () t0_0.succ ∗ stg c cc0_stg0_0 (Ov m c))

/-- The body from the one to the other. -/
theorem wp_body (c : Dev nD) : bodyPre m c ⊢ wpc c (bodyAt0 (F := F) t0_0) (fun _ => bodyPost m c) := by
  rw [body_eq]
  unfold bodyPre Φ₀ start Dat.owesAt Pipeline.owesWithin
  rw [show (dats m 0 c).owed t0_0.castSucc = O₀ c from rfl]
  simp only [wp_bind, Prog.lift, wp_deviceId, wp_ret]
  iintro ⟨⟨⟨⟨%K, #HC⟩, HG, Hs, Hx⟩, Hb⟩, ⟨%W, %hW, HO⟩, ⟨%d, %g, %hg, Hout⟩⟩
  imodintro
  iapply (wp_steps m K c _) $$ [HG Hs Hx Hb HO Hout]
  · isplitr; · iexact HC
    isplitl [HG]; · iexact HG
    isplitl [Hs]; · iexact Hs
    isplitl [Hb]; · iexact Hb
    isplitl [Hx]; · iexact Hx
    isplitl [Hout]; · iexists g; iexact Hout
    unfold Owe
    iexists W
    iexact HO
  iintro ⟨HO, Hz, HZ, Hb, Hx, Hout⟩
  unfold bodyPost Φ₁ Owe Dat.owesAt Pipeline.owesWithin
  rw [show (dats m 0 c).owed t0_0.succ = 0 from rfl]
  icases HO with ⟨%W', HO⟩
  isplitl [Hz HZ Hb Hx]
  · isplitl [Hz]; · iexact Hz
    isplitl [HZ]; · iexact HZ
    isplitl [Hb] <;> iassumption
  isplitl [HO]
  · iexists W'
    isplitr; · ipureintro; exact fun _ _ => Or.inl trivial
    iexact HO
  iexists (Ov m c)
  isplitr; · (ipureintro; rfl)
  iexact Hout

/-- What the pipeline takes back after the point. -/
theorem post_eq (c : Dev nD) : bodyPost m c = iprop((dats m 0 c).Φ t0_0.succ ∗ (dats m 0 c).owesAt () t0_0.succ ∗ stg c cc0_stg0_0 ((dats m 0 c).after 0 t0_0)) := by
  unfold bodyPost
  refine congrArg₂ _ rfl (congrArg₂ _ rfl ?_)
  rfl

/-- The program the pipeline runs at the point. -/
theorem defs_body : (defs₀ (F := F)) Proc.tc 0 (t0_0, cfg0.slots t0_0) = bodyAt0 t0_0 := by
  unfold defs₀ Defs.onTc
  rfl

/-- What the pipeline asks of the body. -/
theorem body_obligation (c : Dev nD) : BodyObligation (dats m 0 c) (defs₀ (F := F)) 𝒱₀ () Set.univ := fun t => by
  rw [fin_N0 t]
  rw [bigSep_W0, bigSep_W0]
  simp only [owns_whole]
  rw [defs_body]
  have h := wp_body m c
  rw [post_eq] at h
  unfold bodyPre at h
  revert h
  generalize bodyAt0 (F := F) t0_0 = p
  intro h
  exact h

end Cert.KProof

end
-- ==== Proof.Launch.lean ====
/-
# The launch

The cells, their tokens and the credits as the launch mints them, dealt to the devices, and the run of all eight.
-/
module

public import proofs.«01_k».proof.Proof.Body
public import Idealize.ShloMosaic.Lib.Pipeline.CollectiveSegs

@[expose] public section

noncomputable section

namespace Cert.KProof

open Cert.KernelIdeal Cert.KernelIdeal.Gen
open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg) (K : Dev nD × CI → ℕ)

/-! ## The kernel's own semaphores -/

/-- Every scoped semaphore but the output's: three for the copies within a device, one per end of each transfer. -/
def osem : Fin 3 ⊕ (Tr ⊕ Tr) → SemLoc sig
  | .inl 0 => .dma semA
  | .inl 1 => .dma (semB 0)
  | .inl 2 => .dma (semB 1)
  | .inr k => csem (.inr k)

theorem osem_small : ∀ i : Fin 3, ∃ q : DmaSem sig, osem (.inl i) = .dma q ∧ q.val = i.val + 1
  | 0 => ⟨semA, rfl, rfl⟩
  | 1 => ⟨semB 0, rfl, rfl⟩
  | 2 => ⟨semB 1, rfl, rfl⟩

theorem osem_big (k : Tr ⊕ Tr) : ∃ q : DmaSem sig, osem (.inr k) = .dma q ∧ 4 ≤ q.val := by
  rcases k with n | n
  · exact ⟨sndS n, rfl, by rw [sndS_val]; omega⟩
  · exact ⟨rcvS n, rfl, by rw [rcvS_val]; omega⟩

theorem osem_inj : Function.Injective osem := by
  intro k k' h
  rcases k with i | n <;> rcases k' with i' | n'
  · obtain ⟨q, e, hq⟩ := osem_small i
    obtain ⟨q', e', hq'⟩ := osem_small i'
    rw [e, e', SemLoc.dma.injEq] at h
    rw [h, hq'] at hq
    exact congrArg _ (Fin.ext (by omega))
  · obtain ⟨q, e, hq⟩ := osem_small i
    obtain ⟨q', e', hq'⟩ := osem_big n'
    rw [e, e', SemLoc.dma.injEq] at h
    rw [h] at hq
    omega
  · obtain ⟨q, e, hq⟩ := osem_big n
    obtain ⟨q', e', hq'⟩ := osem_small i'
    rw [e, e', SemLoc.dma.injEq] at h
    rw [h] at hq
    omega
  · exact congrArg Sum.inr (Sum.inr.inj (csem_inj (h : csem (.inr n) = csem (.inr n'))))

theorem osem_pos (k : Fin 3 ⊕ (Tr ⊕ Tr)) : ∃ q : DmaSem sig, osem k = .dma q ∧ 1 ≤ q.val := by
  rcases k with i | n
  · obtain ⟨q, e, hq⟩ := osem_small i
    exact ⟨q, e, by omega⟩
  · obtain ⟨q, e, hq⟩ := osem_big n
    exact ⟨q, e, by omega⟩

theorem stage_sem : ∀ (w : Fin cfg0.W) (s : Fin (cfg0.win w).nbuf), ((cfg0.win w).sem s).val = 0 := by decide
theorem dma_scoped : ∀ q : DmaSem sig, (SemLoc.dma q : SemLoc sig).isScoped .tc = true := by decide

theorem ownSemFacts : Pipeline.OwnSemFacts cfg0.spec osem where
  isScoped k := by
    obtain ⟨q, e, -⟩ := osem_pos k
    rw [e]
    exact dma_scoped q
  inj := osem_inj
  disj k w s h := by
    obtain ⟨q, e, hq⟩ := osem_pos k
    rw [e, SemLoc.dma.injEq] at h
    have := stage_sem w s
    rw [h] at hq
    exact absurd hq (by rw [show (((cfg0.spec w).sem s) : DmaSem sig).val = 0 from this]; decide)

theorem by_kind {I J : Type} [Fintype I] [Fintype J] [DecidableEq I] [DecidableEq J] (Φ : I ⊕ J → sProp 𝕄) :
    bigSep Finset.univ Φ = iprop((bigSep Finset.univ fun a : I => Φ (.inl a)) ∗ bigSep Finset.univ fun b : J => Φ (.inr b)) := bigSep_univ_sum Φ

theorem ownSems0_eq (c : Dev nD) : (Pipeline.ownSems0 (Ix := Unit) (Name := ℕ) (U := UU) (Lvl := ℕ) (Val := Elt F) (τ := τ) osem c : sProp 𝕄) = OwnZ c := by
  unfold Pipeline.ownSems0 OwnZ Sems3
  rw [bigSep_univ_sum, bigSep_three]
  rfl

theorem unscopedSems0_eq (c : Dev nD) : (unscopedSems0 c : sProp 𝕄) = semVal (barC c) 0 := by
  unfold unscopedSems0
  rw [bigSep_eq_bigSepL_of_eq [SemLoc.reg barS] (by decide) (by decide)]
  rfl

theorem share_eq (c : Dev nD) (w : Fin cfg0.W) : (dats m 0 c).share w = fullShare := by unfold Dat.share; split <;> rfl

/-! ## The cells and their tokens -/

def cells : Finset (GSem nD τ sig) := Finset.univ.map ⟨kcell, kcell_inj⟩

/-- A device's duties as minted: three on its barrier cell, one on each transfer's cells. -/
abbrev TI : Type := Fin 3 ⊕ (Tr ⊕ Tr)
def tokOf (cj : Dev nD × TI) : GSem nD τ sig × ℕ × Fin 3 := match cj.2 with
  | .inl a => (barC cj.1, 0, a)
  | .inr k => (kcell (cj.1, .inr k), 0, 0)

theorem tokOf_inj : Function.Injective tokOf := by
  rintro ⟨c, j⟩ ⟨c', j'⟩ h
  have hc : (tokOf (c, j)).1 = (tokOf (c', j')).1 := congrArg Prod.fst h
  have ha : (tokOf (c, j)).2.2 = (tokOf (c', j')).2.2 := congrArg (fun x => x.2.2) h
  rcases j with a | k <;> rcases j' with a' | k'
  · have h1 := kcell_inj (a₁ := (c, .inl ())) (a₂ := (c', .inl ())) hc
    have h2 : a = a' := ha
    rw [(Prod.mk.inj h1).1, h2]
  · have h1 := kcell_inj (a₁ := (c, .inl ())) (a₂ := (c', .inr k')) hc
    exact absurd (Prod.mk.inj h1).2 (by simp)
  · have h1 := kcell_inj (a₁ := (c, .inr k)) (a₂ := (c', .inl ())) hc
    exact absurd (Prod.mk.inj h1).2 (by simp)
  · have h1 := kcell_inj (a₁ := (c, .inr k)) (a₂ := (c', .inr k')) hc
    rw [(Prod.mk.inj h1).1, Sum.inr.inj (Prod.mk.inj h1).2]

def toks : Finset (GSem nD τ sig × ℕ × Fin 3) := Finset.univ.map ⟨tokOf, tokOf_inj⟩

/-- The launch's ghost element: the pipeline's copy, the cells' rounds, no counter. -/
def u₀ : UU := (initOf (Pipeline.cells cfgs cellOf_inj) (Pipeline.launchToks cfgs cellOf_inj), (initOf cells toks, 1))

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of device `c`'s own cells. -/
def ToksAt (c : Dev nD) : sProp 𝕄 :=
  iprop((bigSep Finset.univ fun a : Fin 3 => dutyTok ER (barC c) 0 a)
    ∗ (bigSep Finset.univ fun n : Tr => dutyTok ER (sndC c n) 0 0) ∗ (bigSep Finset.univ fun n : Tr => dutyTok ER (rcvC c n) 0 0))

/-- What the ghost element deals device `c`. -/
def G (c : Dev nD) : sProp 𝕄 :=
  iprop((bigSep Finset.univ fun k : CI => roundState ER (Rd m) (kcell (c, k)) 0)
    ∗ (bigSep Finset.univ fun k : CI => reached ER (kcell (c, k)) 0) ∗ Ats c ∗ ToksAt c)

/-- The records every device may use. -/
def Recs : sProp 𝕄 :=
  iprop((bigSep Finset.univ fun ck : Dev nD × CI => cellInv ER (Rd m) (K ck) (kcell ck)) ∗ bigSep Finset.univ fun ck : Dev nD × CI => reached ER (kcell ck) 0)
instance Recs_persistent : BI.Persistent (Recs m K) := by unfold Recs; infer_instance

/-- What device `c` holds once the cells are allocated and the tokens dealt to their payers. -/
def G' (c : Dev nD) : sProp 𝕄 := iprop((∃ K : Dev nD × CI → ℕ, Recs m K) ∗ Toks c ∗ Ats c ∗ Sems3 c)

theorem fund_cells : BI.own (ER (initOf cells toks)) ⊢ (|==> bigSep Finset.univ (G m) : sProp 𝕄) := by
  have hX (Φ : GSem nD τ sig → sProp 𝕄) : bigSep cells Φ = bigSep Finset.univ fun c : Dev nD => bigSep Finset.univ fun k : CI => Φ (kcell (c, k)) := by
    unfold cells; rw [bigSep_map, bigSep_univ_prod]; rfl
  have hT : bigSep toks (fun x => (dutyTok ER x.1 x.2.1 x.2.2 : sProp 𝕄)) = bigSep Finset.univ fun c : Dev nD => ToksAt c := by
    unfold toks
    rw [bigSep_map, bigSep_univ_prod]
    exact bigSep_congr fun c _ => by unfold ToksAt; rw [bigSep_univ_sum, bigSep_univ_sum]; rfl
  iintro HX
  imod (Rounds.fund ER (Rd m) cells toks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G Ats
  simp only [bigSep_sep']
  isplitl [Hst']; · iexact Hst'
  isplitl [Hr']; · iexact Hr'
  isplitl [Hat'] <;> iassumption

/-- One device's cells, from its semaphores at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => reached ER (kcell (c, k)) 0) ∗ (Ats c ∗ Sems3 c) ∗ ToksAt c) := by
  rw [ownSems0_eq, unscopedSems0_eq]
  unfold G OwnZ
  iintro ⟨⟨H3, Hk⟩, Hb, Hst, Hr, Hat, Htok⟩
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hb Hk Hst] with Hinv
  · isplitr [Hst]
    · iapply (Entails.of_eq (by_kind fun k : CI => (semVal (kcell (c, k)) 0 : sProp 𝕄)).symm)
      isplitl [Hb]
      · iapply (Entails.of_eq (bigSep_singleton (i := ()) (Φ := fun u : Unit => (semVal (kcell (c, .inl u)) 0 : sProp 𝕄))).symm)
        iexact Hb
      iexact Hk
    iexact Hst
  imodintro
  isplitl [Hinv]; · iexact Hinv
  isplitl [Hr]; · iexact Hr
  isplitl [Hat H3]
  · isplitl [Hat] <;> iassumption
  iexact Htok

/-- Equal families over the devices, exchanged along an axis. -/
theorem deal_bar : (bigSep Finset.univ fun c : Dev nD => bigSep Finset.univ fun a : Fin 3 => (dutyTok ER (barC c) 0 a : sProp 𝕄))
    = bigSep Finset.univ fun c : Dev nD => bigSep Finset.univ fun a : Fin 3 => dutyTok ER (barC (nb c a)) 0 a := by
  simp only [bigSep_three, bigSep_sep']
  rw [bigSep_univ_equiv (across 0) (fun c : Dev nD => (dutyTok ER (barC c) 0 0 : sProp 𝕄)),
    bigSep_univ_equiv (across 1) (fun c : Dev nD => (dutyTok ER (barC c) 0 1 : sProp 𝕄)),
    bigSep_univ_equiv (across 2) (fun c : Dev nD => (dutyTok ER (barC c) 0 2 : sProp 𝕄))]
  rfl

/-- The devices and the transfers in the other order. -/
theorem swap_dt (Φ : Dev nD → Tr → sProp 𝕄) :
    (bigSep Finset.univ fun c : Dev nD => bigSep Finset.univ fun n : Tr => Φ c n) = bigSep Finset.univ fun n : Tr => bigSep Finset.univ fun c : Dev nD => Φ c n := by
  rw [← bigSep_univ_prod (fun x : Dev nD × Tr => Φ x.1 x.2), ← bigSep_univ_prod (fun x : Tr × Dev nD => Φ x.2 x.1),
    bigSep_univ_equiv (Equiv.prodComm Tr (Dev nD)) (fun x : Dev nD × Tr => Φ x.1 x.2)]
  rfl

theorem deal_rcv : (bigSep Finset.univ fun c : Dev nD => bigSep Finset.univ fun n : Tr => (dutyTok ER (rcvC c n) 0 0 : sProp 𝕄))
    = bigSep Finset.univ fun c : Dev nD => bigSep Finset.univ fun n : Tr => dutyTok ER (rcvC (tgt c n) n) 0 0 := by
  rw [swap_dt, swap_dt fun c n => dutyTok ER (rcvC (tgt c n) n) 0 0]
  exact bigSep_congr fun n _ => bigSep_univ_equiv (across (tg n)) (fun c : Dev nD => (dutyTok ER (rcvC c n) 0 0 : sProp 𝕄))

/-- The tokens dealt to their payers. -/
theorem deal : (bigSep Finset.univ fun c : Dev nD => (ToksAt c : sProp 𝕄)) ⊢ bigSep Finset.univ fun c : Dev nD => Toks c := by
  unfold ToksAt Toks
  simp only [bigSep_sep']
  rw [deal_bar, deal_rcv]

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem give (c : Dev nD) : iprop(Recs m K ∗ ((Ats c ∗ Sems3 c) ∗ Toks c)) ⊢ G' m c := by
  unfold G'
  iintro ⟨#HR, ⟨Ha, Hs⟩, Ht⟩
  isplitr; · iexists K; iexact HR
  isplitl [Ht]; · iexact Ht
  isplitl [Ha] <;> iassumption

theorem regroup :
    (bigSep Finset.univ fun c : Dev nD => iprop((bigSep Finset.univ fun k : CI => iprop(∃ κ : ℕ, cellInv ER (Rd m) κ (kcell (c, k))))
          ∗ (bigSep Finset.univ fun k : CI => reached ER (kcell (c, k)) 0) ∗ (Ats c ∗ Sems3 c) ∗ ToksAt c) : sProp 𝕄)
      ⊢ bigSep Finset.univ (G' m) := by
  rw [bigSep_sep', bigSep_sep', bigSep_sep' Finset.univ (fun c : Dev nD => iprop(Ats c ∗ Sems3 c)) (fun c => ToksAt (F := F) c),
    ← bigSep_univ_prod (fun ck : Dev nD × CI => iprop(∃ κ : ℕ, cellInv ER (Rd m) κ (kcell ck))),
    ← bigSep_univ_prod (fun ck : Dev nD × CI => (reached ER (kcell ck) 0 : sProp 𝕄))]
  iintro ⟨HI, #HR, Hat, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (deal (F := F)) $$ Htok
  iapply (with_persistent (R := Recs m K) fun c _ => give m K c)
  isplitr
  · unfold Recs
    isplitl; · iexact HI
    iexact HR
  · iapply (Entails.of_eq (bigSep_sep' Finset.univ (fun c : Dev nD => iprop(Ats (F := F) c ∗ Sems3 c)) (fun c => Toks c)).symm)
    isplitl [Hat] <;> iassumption

/-- All the devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What the devices owe a cell across an axis: the cell's one partner's unit. -/
theorem sum_across (a : Fin 3) (k' k : CI) (v : ℕ) (c : Dev nD) :
    ∑ d : Dev nD, (tallyAt (kcell (nb d a, k')) () v : CellTallies nD τ sig Unit) (kcell (c, k)) () = if k' = k then v else 0 := by
  rw [show (∑ d : Dev nD, (tallyAt (kcell (nb d a, k')) () v : CellTallies nD τ sig Unit) (kcell (c, k)) ())
      = ∑ d : Dev nD, (tallyAt (kcell (d, k')) () v : CellTallies nD τ sig Unit) (kcell (c, k)) () from Equiv.sum_comp (across a) fun d => (tallyAt (kcell (d, k')) () v : CellTallies nD τ sig Unit) (kcell (c, k)) ()]
  by_cases h : k' = k
  · subst h
    rw [if_pos rfl, Finset.sum_eq_single c (fun d _ hd => ?_) (fun h => absurd (Finset.mem_univ c) h), tallyAt_apply, if_pos ⟨rfl, rfl⟩]
    rw [tallyAt_apply, if_neg fun h => hd (Prod.mk.inj (kcell_inj h.1)).1.symm]
  · rw [if_neg h]
    exact Finset.sum_eq_zero fun d _ => by rw [tallyAt_apply, if_neg fun h' => h (Prod.mk.inj (kcell_inj h'.1)).2.symm]

/-- What all the devices owe a cell of device `c`. -/
def need : CI → ℕ
  | .inl _ => 3
  | .inr (.inl _) => 0
  | .inr (.inr _) => N

theorem sum_O₀ (c : Dev nD) (k : CI) : ∑ d : Dev nD, O₀ d (kcell (c, k)) () = need k := by
  unfold O₀ O₁ O₂ O₃ Ow
  simp only [Pi.add_apply, Finsupp.add_apply, Finset.sum_add_distrib, Finset.sum_apply, Finsupp.finset_sum_apply]
  rw [Finset.sum_comm, sum_across 0, sum_across 1, sum_across 2, Finset.sum_congr rfl fun n _ => sum_across (tg n) (.inr (.inr n)) k N c]
  rcases k with u | n | n
  · simp [need]
  · simp [need]
  · simp only [need, reduceCtorEq, if_false, add_zero, Sum.inr.injEq]
    rw [Finset.sum_ite_eq' _ n fun _ => N, if_pos]
    simp

theorem launch_at (c : Dev nD) (k : CI) :
    tallyOn (kcell (c, k)) (launchCredit (Pipeline.owing O₀) 0 (kcell (c, k))) = (tallyAt (kcell (c, k)) () (need k) : CellTallies nD τ sig Unit) := by
  unfold tallyAt
  refine congrArg _ (Finsupp.ext fun u => ?_)
  cases u
  rw [Pipeline.launchCredit_owing, Finsupp.single_eq_same, sum_O₀]

/-- A device's credits out of what the launch gives it. -/
theorem creds (c : Dev nD) : (Pipeline.launchCred O₀ c : sProp 𝕄) ⊢ Crs c := by
  unfold Pipeline.launchCred Crs
  refine (bigSep_subset (t := Finset.univ.map ⟨csem, csem_inj⟩) (Finset.subset_univ _)).trans ?_
  rw [bigSep_map, by_kind, by_kind]
  show (_ : sProp 𝕄) ⊢ _
  iintro ⟨Hb, -, Hr⟩
  isplitl [Hb]
  · iapply (Entails.of_eq (congrArg cred (launch_at c (.inl ()))))
    iapply (Entails.of_eq (bigSep_singleton (i := ()) (Φ := fun u : Unit => (cred (tallyOn (kcell (c, .inl u)) (launchCredit (Pipeline.owing O₀) 0 (kcell (c, .inl u)))) : sProp 𝕄))))
    iexact Hb
  · iapply (show (bigSep Finset.univ fun n : Tr => (cred (tallyOn (rcvC c n) (launchCredit (Pipeline.owing O₀) 0 (rcvC c n))) : sProp 𝕄)) ⊢ bigSep Finset.univ fun n : Tr => cred (tallyAt (rcvC c n) () N) from
      bigSep_mono fun n _ => Entails.of_eq (congrArg cred (launch_at c (.inr (.inr n)))))
    iexact Hr

/-! ## The run -/

theorem arg_rest (c : Dev nD) : (Pipeline.unscopedRestP Pipeline.Prefetch.none cfg0.spec c (fun b => m ((c : Thread nD τ).loc b)) : sProp 𝕄) = xFull m c := by
  rw [Pipeline.unscopedRestP_none]
  exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [arg_rest]
  unfold G' start Recs
  iintro ⟨Hx, #Hlev, Hcr, -, ⟨%K, #HI, #HR⟩, Ht, Ha, Hs⟩
  ihave Hc := (creds (F := F) c) $$ Hcr
  imodintro
  isplitl
  · isplitr
    · iexists K
      unfold Ctx
      isplitr; · iexact HI
      isplitr; · iexact HR
      iexact Hlev
    isplitl [Ht Ha Hc]
    · isplitl [Ht]; · iexact Ht
      isplitl [Ha] <;> iassumption
    isplitl [Hs] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ Bufs
  iintro ⟨Hs, -, Hr⟩
  isplitl [Hs]; · iexact Hs
  iexact Hr

theorem phi1_exit (c : Dev nD) :
    (dats m 0 c).Φ (Fin.last cfg0.N) ⊢ iprop((unscopedSems0 c ∗ xFull m c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ Bufs
  iintro ⟨Hb, Ho, Hr, Hx⟩
  isplitl [Hb Hx]
  · isplitl [Hb] <;> iassumption
  isplitl [Ho]; · iexact Ho
  iexact Hr

theorem waits (c : Dev nD) : (levAts L lv : sProp 𝕄) ⊢ Pipeline.cellsWaits cfgs (dats m) () 0 c :=
  Pipeline.cellsWaits_intro cfgs (dats m) () 0 c fun w s t => by
    rcases t with ⟨_ | t, ht⟩
    · exact mayWait_O₀ c _ (by rw [kOf_small _ (by rw [stage_sem]; decide)]; rfl)
    · show _ ⊢ MayWait _ _ () 0
      rw [MayWait_zero]
      iintro -
      iempintro

/-- The final contents of the result array. -/
def finalA (c : Dev nD) (w : Fin cfg0.W) : Buf (Elt F) ((cfg0.win w).arr.view.loc (c : Thread nD τ)) := (dats m 0 c).arrAt w cfg0.N

theorem finalA_o (c : Dev nD) : (win0_0.blk (0 : Fin 1)).view.read (Elt F) (finalA m c (0 : Fin 1)) = Ov m c := by
  unfold finalA
  rw [show cfg0.N = ((0 : Fin 1) : Fin cfg0.N).val + 1 from rfl, (dats m 0 c).arrAt_succ (0 : Fin 1) (0 : Fin 1)]
  rw [show (cfg0.win (0 : Fin 1)).flush (0 : Fin 1) = true from by decide, if_pos rfl]
  exact View.read_write_univ _ _

/-- Reading the argument off a final state. -/
theorem arg_read (c : Dev nD) (s' : Phys nD τ sig (Elt F)) :
    iprop(xFull m c ∗ SI s') ⊢ (⌜s'.mem.mem ((c : Thread nD τ).loc main_arg0) = m ((c : Thread nD τ).loc main_arg0)⌝ : sProp 𝕄) := by
  iintro ⟨Hx, HSI⟩
  ihave H := (SI_pointsTo_agree (st := s') (ℓ := (c : Thread nD τ).loc main_arg0) (I := Finset.univ) (q := fullShare) (f := xV m c)) $$ [HSI Hx]
  · isplitl [HSI]; · iexact HSI
    iexact Hx
  icases H with %hx
  ipureintro
  exact funext fun i => hx i (Finset.mem_univ i)

/-- What the run leaves: the result's contents, the argument as it was, every counter at zero. -/
def Post (r : PUnit × MemSt nD τ sig (Elt F)) : Prop :=
  (∀ c : Dev nD, (win0_0.blk (0 : Fin 1)).view.read (Elt F) (r.2.mem (win0_0.arr.view.loc (c : Thread nD τ))) = Ov m c
    ∧ r.2.mem ((c : Thread nD τ).loc main_arg0) = m ((c : Thread nD τ).loc main_arg0)) ∧ r.2.sem = fun _ => 0

set_option maxRecDepth 8000 in
/-- From any memory with every counter at zero, the eight devices run to the end and leave `Post`. -/
theorem run_main : θ_run defs (onTc (τ := τ) (main (F := F))) (s₀ m ρ) (Post m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => iprop(unscopedSems0 c ∗ xFull m c)) (Z := fun _ => iprop(emp))
    (hX := start_intro m ρ) (hin := phi0_intro m) (hout := phi1_exit m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hu, Hx⟩, -, HSI⟩
      ihave H := (persistent_entails_right (arg_read m c s')) $$ [Hx HSI]
      · isplitl [Hx] <;> iassumption
      icases H with ⟨%hx, -, HSI⟩
      imod (Pipeline.unscopedSems0_read (X := unscopedSems0 c) (c := c) fupd_intro s') $$ [Hu HSI] with ⟨%hs, HSI⟩
      · isplitl [Hu] <;> iassumption
      imodintro
      isplitr; · (ipureintro; exact ⟨hx, hs⟩)
      iexact HSI)
    (hQ := fun _ h hs => ⟨fun c => ⟨(congrArg _ ((h c).1 0)).trans (finalA_o m c), (h c).2.2.1⟩, sem_eq_zero hs fun c => (h c).2.2.2⟩)

end Cert.KProof

end
-- ==== Proof.Equation.lean ====
/-
# The kernel's result and the reference's

Over the extended reals the reference adds the two planes of its argument. Device `d` with last coordinate `z` ends
holding plane `1 - z` plus plane `z`, at the columns of half `z`: block `z` of the reference's result.
-/
module

public import proofs.«01_k».proof.Proof.Mesh
public import proofs.«01_k».proof.Proof.Gen.ReferenceIdeal.Run
public import Idealize.ShloMosaic.Lib.Layout
public import Idealize.ShloMosaic.Lib.Pointwise.Reduce
public import Idealize.ShloMosaic.Lib.Pointwise.Tactic

@[expose] public section

noncomputable section

namespace Cert.KProof

open Cert.KernelIdeal Cert.KernelIdeal.Gen
open Idealize.ShloMosaic Idealize.ShloMosaic.TcCoe Idealize.SL.Sem

/-- The output's one block is the whole output array. -/
theorem read_out {F : FTy → Type} (f : (main_v1 : Ref sig .tc).ty.Contents (Elt F)) :
    (win0_0.blk (0 : Fin 1)).view.read (Elt F) f = f := by
  funext i
  rw [View.read_apply]
  refine congrArg f (funext fun a => Fin.ext ?_)
  match a with
  | ⟨0, _⟩ => show 0 * _ + 1 * (i 0).val = (i 0).val; omega
  | ⟨1, _⟩ => show 0 * _ + 1 * (i 1).val = (i 1).val; omega

/-- What the reference computes of its argument. -/
abbrev refV (X : FVec Ideal Cert.ReferenceIdeal.S2x8192x2048 .f32) : FVec Ideal Cert.ReferenceIdeal.S8192x2048 .bf16 :=
  truncf .bf16 (Host.reduceAdd X (constant Cert.ReferenceIdeal.S_ .f32 0x00000000#32)
    Cert.ReferenceIdeal.Gen.reducesTo_S2x8192x2048_S8192x2048_d0 Cert.ReferenceIdeal.Gen.h_S_)
    Cert.ReferenceIdeal.Gen.bitsLt_bf16_f32

/-- Each element of the reference's result is the sum of the two planes there. -/
theorem refV_apply (X : FVec Ideal Cert.ReferenceIdeal.S2x8192x2048 .f32) (i : Cert.ReferenceIdeal.S8192x2048.Idx) :
    refV X i = (X (ix3 (0 : Fin 2) (i 0) (i 1)) + X (ix3 (1 : Fin 2) (i 0) (i 1)) : EReal) := by
  show Ideal.hostReduceAdd Cert.ReferenceIdeal.Gen.reducesTo_S2x8192x2048_S8192x2048_d0 X (Ideal.ofBits .f32 0x00000000#32) i = _
  rw [Ideal.hostReduceAdd_r3_a0, Ideal.ofBits_zero_f32, Fin.sum_univ_two]
  exact zero_add _

/-- A device's argument is one plane of the reference's: the plane its last coordinate names. -/
theorem arg_apply (X : FVec Ideal Cert.ReferenceIdeal.S2x8192x2048 .f32) (c : Dev nD) (r : Fin 8192) (q : Fin 2048) :
    (Layout.blockN ⟨3, ![1, 8192, 2048]⟩ ⟨3, ![2, 8192, 2048]⟩ (Layout.meshBlock [2, 2, 2] ![[2], [], []] c) X :
      (⟨3, ![1, 8192, 2048]⟩ : Shape).Idx → Ideal .f32) (ix3 (0 : Fin 1) r q)
      = X (ix3 (zc c) r q) := by
  rw [Layout.blockN_apply]
  refine congrArg X (funext fun a => Fin.ext ?_)
  match a with
  | ⟨0, _⟩ => show (c.val / 1 % 2 * 1 + 0) * 1 + 0 = c.val % 2; omega
  | ⟨1, _⟩ => show 0 * 8192 + r.val = r.val; omega
  | ⟨2, _⟩ => show 0 * 2048 + q.val = q.val; omega

/-- The two planes a device adds are the two planes, in one order or the other. -/
theorem planes (z : Fin 2) (f : Fin 2 → EReal) (w : Fin 2) (h : w.val = 1 - z.val) : f w + f z = f 0 + f 1 := by
  match z, w, h with
  | 0, 1, _ => exact add_comm _ _
  | 1, 0, _ => rfl

theorem zc_sd (z : Fin 2) (r : Fin 8192) : (zc (sd z r)).val = 1 - z.val := by
  show (2 * (r.val / 2048) + (1 - z.val)) % 2 = _
  omega

/-- Each device's result is its block of the reference's result. -/
theorem Ov_eq (m : (ℓ : Loc nD τ sig) → Buf (Elt Ideal) ℓ) (X : FVec Ideal Cert.ReferenceIdeal.S2x8192x2048 .f32)
    (h : ∀ c : Dev nD, m ((c.tc : Thread nD τ).loc main_arg0)
      = Layout.blockN ⟨3, ![1, 8192, 2048]⟩ ⟨3, ![2, 8192, 2048]⟩ (Layout.meshBlock [2, 2, 2] ![[2], [], []] c) X)
    (c : Dev nD) :
    Ov m c = Layout.blockN ⟨2, ![8192, 1024]⟩ ⟨2, ![8192, 2048]⟩ (Layout.meshBlock [2, 2, 2] ![[], [2]] c) (refV X) := by
  have e : ∀ (d : Dev nD) (r : Fin 8192) (q : Fin 2048), xV m d (ix3 (0 : Fin 1) r q) = X (ix3 (zc d) r q) := fun d r q =>
    (congrFun (h d) _).trans (arg_apply X d r q)
  funext i
  have h0 : ((Layout.TilesN.idx (S := ⟨2, ![8192, 1024]⟩) (T := ⟨2, ![8192, 2048]⟩) (by decide) (Layout.meshBlock [2, 2, 2] ![[], [2]] c) i) 0 : Fin 8192) = i 0 :=
    Fin.ext (by show 0 * 8192 + (i 0).val = (i 0).val; omega)
  have h1 : ((Layout.TilesN.idx (S := ⟨2, ![8192, 1024]⟩) (T := ⟨2, ![8192, 2048]⟩) (by decide) (Layout.meshBlock [2, 2, 2] ![[], [2]] c) i) 1 : Fin 2048) = hc (zc c) (i 1) :=
    Fin.ext (by show (c.val / 1 % 2 * 1 + 0) * 1024 + (i 1).val = 1024 * (c.val % 2) + (i 1).val; omega)
  rw [Layout.blockN_apply, refV_apply, h0, h1]
  exact (congrArg₂ (· + · : EReal → EReal → EReal) (e (sd (zc c) (i 0)) (i 0) (hc (zc c) (i 1))) (e c (i 0) (hc (zc c) (i 1)))).trans
    (planes (zc c) (fun p => X (ix3 p (i 0) (hc (zc c) (i 1)))) _ (zc_sd _ _))

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.KProof

/-- The two programs' kernels are one. -/
theorem kernels_eq : Cert.Kernel.defs₀ (F := Bits) = Cert.KernelIdeal.defs₀ (F := Bits) :=
  congrArg Defs.onTc (funext fun l => funext fun a => match l, a with
    | 0, (_, _) => rfl
    | ⟨_ + 1, h⟩, _ => absurd h (Nat.not_lt.2 (Nat.le_add_left _ _)))

/-- So their body tables are one. -/
theorem tables_eq : Cert.Kernel.defs (F := Bits) = Cert.KernelIdeal.defs (F := Bits) :=
  congrArg (Pipeline.defs Cert.KernelIdeal.pcfgs) kernels_eq

/-- The kernel terminates with its argument unchanged and every counter at zero. -/
theorem frame_kernel : Cert.quiescent_Kernel := fun m ρ _ => by
  rw [tables_eq]
  exact (θ_run Cert.KernelIdeal.defs _ _).mono (fun _ h => ⟨fun c => (h.1 c).2, h.2⟩) (run_main (F := Bits) m ρ)

/-- The same of its idealization. -/
theorem frame_kernelIdeal : Cert.quiescent_KernelIdeal := fun m ρ _ =>
  (θ_run Cert.KernelIdeal.defs _ _).mono (fun _ h => ⟨fun c => (h.1 c).2, h.2⟩) (run_main (F := Ideal) m ρ)

/-- The reference terminates with its argument unchanged; it has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- No operation was rewritten. -/
theorem preserves : Cert.preserves_Kernel_KernelIdeal := trivial

/-- Each device's result is its block of the reference's. -/
theorem algebraic : Cert.algebraic_KernelIdeal_ReferenceIdeal := fun m ρ m' ρ' _ hm =>
  ⟨refV (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(read_out _).symm.trans ((h.1 c).1.trans (Ov_eq m _ hm c)), (h.1 c).2⟩) (run_main (F := Ideal) m ρ),
    (θ_run Cert.ReferenceIdeal.defs _ _).mono (fun _ h => h 0) (Cert.ReferenceIdeal.Value.run (F := Ideal) m' ρ')⟩

/-- All five claims together. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
